-- ==== Defs.lean ====
def Pre_Kernel [hPre_boxes_start : Cert.Pre_boxes_start.Facts] (m : (ℓ : Loc Cert.Kernel.nD Cert.Kernel.τ Cert.Kernel.sig) → Buf (Elt Bits) ℓ) : Prop :=
  ∀ c : Dev Cert.Kernel.nD,
    (Cert.Pre_boxes_start.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_boxes_start : Cert.Pre_boxes_start.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_boxes_fit [hPre_boxes_fit : Cert.Pre_boxes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_fit [hPre_boxes_fit : Cert.Pre_boxes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_boxes_start : Cert.Pre_boxes_start.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_boxes_start : Cert.Pre_boxes_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_fit [hKernelIdeal : Cert.KernelIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_fit [hReferenceIdeal : Cert.ReferenceIdeal.Facts] [hPre_boxes_fit : Cert.Pre_boxes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_fit [hKernelIdeal : Cert.KernelIdeal.Facts] [hReferenceIdeal : Cert.ReferenceIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_start : Cert.Pre_boxes_start.Facts) (hPre_boxes_fit : Cert.Pre_boxes_fit.Facts),
    quiescent_Kernel (hKernel := hKernel) (hPre_boxes_start := hPre_boxes_start)
    ∧ quiescent_KernelIdeal (hKernelIdeal := hKernelIdeal) (hPre_boxes_start := hPre_boxes_start)
    ∧ quiescent_KernelIdeal_pre_boxes_fit (hKernelIdeal := hKernelIdeal) (hPre_boxes_fit := hPre_boxes_fit)
    ∧ quiescent_ReferenceIdeal (hReferenceIdeal := hReferenceIdeal)
    ∧ quiescent_ReferenceIdeal_pre_boxes_fit (hReferenceIdeal := hReferenceIdeal) (hPre_boxes_fit := hPre_boxes_fit)
    ∧ preserves_Kernel_KernelIdeal
    ∧ algebraic_KernelIdeal_ReferenceIdeal_pre_boxes_fit (hKernelIdeal := hKernelIdeal) (hReferenceIdeal := hReferenceIdeal) (hPre_boxes_fit := hPre_boxes_fit)
-- ==== Pre_boxes_fit.lean ====
abbrev S512x512x100 : Shape := ⟨3, ![512, 512, 100]⟩
abbrev S100x4 : Shape := ⟨2, ![100, 4]⟩
abbrev S100x1 : Shape := ⟨2, ![100, 1]⟩
abbrev S100 : Shape := ⟨1, ![100]⟩
abbrev S_ : Shape := ⟨0, ![]⟩

class Facts : Prop where
  slices_S100x4_S100x1_0_0 : S100x4.Slices ![0, 0] S100x1
  shapeCasts_S100x1_S100 : S100x1.ShapeCasts S100
  slices_S100x4_S100x1_0_1 : S100x4.Slices ![0, 1] S100x1
  slices_S100x4_S100x1_0_2 : S100x4.Slices ![0, 2] S100x1
  slices_S100x4_S100x1_0_3 : S100x4.Slices ![0, 3] S100x1
  bcast_S_S100 : S_.BroadcastsInDim S100 (![] : Fin 0 → Fin S100.rank)

variable [Facts]

def fn_part1 {F : FTy → Type} [FloatOps F] (main_v5 : IVec S100 32) (main_v11 : IVec S100 32) (main_v20 : IVec S100 1) : IVec S100 1 :=
  let main_c_2 : IVec S_ 32 := constantI S_ 32 248#32
  let main_v21 : IVec S100 32 := broadcastInDim S100 ![] bcast_S_S100 main_c_2
  let main_v22 : IVec S100 32 := addi main_v5 main_v21
  let main_v23 : IVec S100 1 := cmpi .sle main_v11 main_v22
  let main_v24 : IVec S100 1 := andi main_v20 main_v23
  main_v24

def fn {F : FTy → Type} [FloatOps F] (main_arg0 : FVec F S512x512x100 .f32) (main_arg1 : FVec F S100x4 .f32) : IVec S100 1 :=
  let main_v0 : FVec F S100x1 .f32 := (extractStridedSlice S100x1 ![0, 0] · slices_S100x4_S100x1_0_0) main_arg1
  let main_v1 : FVec F S100 .f32 := shapeCast S100 main_v0 shapeCasts_S100x1_S100
  let main_v2 : IVec S100 32 := fptosi 32 main_v1
  let main_v3 : FVec F S100x1 .f32 := (extractStridedSlice S100x1 ![0, 1] · slices_S100x4_S100x1_0_1) main_arg1
  let main_v4 : FVec F S100 .f32 := shapeCast S100 main_v3 shapeCasts_S100x1_S100
  let main_v5 : IVec S100 32 := fptosi 32 main_v4
  let main_v6 : FVec F S100x1 .f32 := (extractStridedSlice S100x1 ![0, 2] · slices_S100x4_S100x1_0_2) main_arg1
  let main_v7 : FVec F S100 .f32 := shapeCast S100 main_v6 shapeCasts_S100x1_S100
  let main_v8 : IVec S100 32 := fptosi 32 main_v7
  let main_v9 : FVec F S100x1 .f32 := (extractStridedSlice S100x1 ![0, 3] · slices_S100x4_S100x1_0_3) main_arg1
  let main_v10 : FVec F S100 .f32 := shapeCast S100 main_v9 shapeCasts_S100x1_S100
  let main_v11 : IVec S100 32 := fptosi 32 main_v10
  let main_c : IVec S_ 32 := constantI S_ 32 0#32
  let main_v12 : IVec S100 32 := broadcastInDim S100 ![] bcast_S_S100 main_c
  let main_v13 : IVec S100 1 := cmpi .sge main_v2 main_v12
  let main_c_0 : IVec S_ 32 := constantI S_ 32 0#32
  let main_v14 : IVec S100 32 := broadcastInDim S100 ![] bcast_S_S100 main_c_0
  let main_v15 : IVec S100 1 := cmpi .sge main_v5 main_v14
  let main_v16 : IVec S100 1 := andi main_v13 main_v15
  let main_c_1 : IVec S_ 32 := constantI S_ 32 256#32
  let main_v17 : IVec S100 32 := broadcastInDim S100 ![] bcast_S_S100 main_c_1
  let main_v18 : IVec S100 32 := addi main_v2 main_v17
  let main_v19 : IVec S100 1 := cmpi .sle main_v8 main_v18
  let main_v20 : IVec S100 1 := andi main_v16 main_v19
  fn_part1 (F := F) main_v5 main_v11 main_v20
-- ==== Pre_boxes_start.lean ====
abbrev S512x512x100 : Shape := ⟨3, ![512, 512, 100]⟩
abbrev S100x4 : Shape := ⟨2, ![100, 4]⟩
abbrev S100x1 : Shape := ⟨2, ![100, 1]⟩
abbrev S100 : Shape := ⟨1, ![100]⟩
abbrev S_ : Shape := ⟨0, ![]⟩

class Facts : Prop where
  slices_S100x4_S100x1_0_0 : S100x4.Slices ![0, 0] S100x1
  shapeCasts_S100x1_S100 : S100x1.ShapeCasts S100
  slices_S100x4_S100x1_0_1 : S100x4.Slices ![0, 1] S100x1
  bcast_S_S100 : S_.BroadcastsInDim S100 (![] : Fin 0 → Fin S100.rank)

variable [Facts]

def fn {F : FTy → Type} [FloatOps F] (main_arg0 : FVec F S512x512x100 .f32) (main_arg1 : FVec F S100x4 .f32) : IVec S100 1 :=
  let main_v0 : FVec F S100x1 .f32 := (extractStridedSlice S100x1 ![0, 0] · slices_S100x4_S100x1_0_0) main_arg1
  let main_v1 : FVec F S100 .f32 := shapeCast S100 main_v0 shapeCasts_S100x1_S100
  let main_v2 : IVec S100 32 := fptosi 32 main_v1
  let main_v3 : FVec F S100x1 .f32 := (extractStridedSlice S100x1 ![0, 1] · slices_S100x4_S100x1_0_1) main_arg1
  let main_v4 : FVec F S100 .f32 := shapeCast S100 main_v3 shapeCasts_S100x1_S100
  let main_v5 : IVec S100 32 := fptosi 32 main_v4
  let main_c : IVec S_ 32 := constantI S_ 32 0#32
  let main_v6 : IVec S100 32 := broadcastInDim S100 ![] bcast_S_S100 main_c
  let main_v7 : IVec S100 1 := cmpi .sge main_v2 main_v6
  let main_c_0 : IVec S_ 32 := constantI S_ 32 0#32
  let main_v8 : IVec S100 32 := broadcastInDim S100 ![] bcast_S_S100 main_c_0
  let main_v9 : IVec S100 1 := cmpi .sge main_v5 main_v8
  let main_v10 : IVec S100 1 := andi main_v7 main_v9
  main_v10
-- ==== Kernel.lean ====
abbrev S512x512x100 : Shape := ⟨3, ![512, 512, 100]⟩
abbrev S100x4 : Shape := ⟨2, ![100, 4]⟩
abbrev S100x512x512 : Shape := ⟨3, ![100, 512, 512]⟩
abbrev S4x100 : Shape := ⟨2, ![4, 100]⟩
abbrev S100x1 : Shape := ⟨2, ![100, 1]⟩
abbrev S100 : Shape := ⟨1, ![100]⟩
abbrev S_ : Shape := ⟨0, ![]⟩
abbrev S6x256x384 : Shape := ⟨3, ![6, 256, 384]⟩
abbrev S4x512x512 : Shape := ⟨3, ![4, 512, 512]⟩
abbrev S6 : Shape := ⟨1, ![6]⟩
abbrev S4 : Shape := ⟨1, ![4]⟩
abbrev S1 : Shape := ⟨1, ![1]⟩
abbrev S1x256x384 : Shape := ⟨3, ![1, 256, 384]⟩
abbrev S256x384 : Shape := ⟨2, ![256, 384]⟩
abbrev S1x512x512 : Shape := ⟨3, ![1, 512, 512]⟩
abbrev S512x512 : Shape := ⟨2, ![512, 512]⟩
abbrev S1x1 : Shape := ⟨2, ![1, 1]⟩
abbrev S256x1 : Shape := ⟨2, ![256, 1]⟩
abbrev S1x384 : Shape := ⟨2, ![1, 384]⟩

abbrev nBuf : Space → Nat
  | .hbm => 52
  | .vmem => 2
  | .smem => 3
  | _ => 0

abbrev bufTy : (tb : Table) → Fin (tcTables nBuf tb) → BufTy
  | .hbm, ⟨0, _⟩ => ⟨S512x512x100, .f32⟩
  | .hbm, ⟨1, _⟩ => ⟨S100x4, .f32⟩
  | .hbm, ⟨2, _⟩ => ⟨S100x512x512, .f32⟩
  | .hbm, ⟨3, _⟩ => ⟨S4x100, .f32⟩
  | .hbm, ⟨4, _⟩ => ⟨S100x1, .f32⟩
  | .hbm, ⟨5, _⟩ => ⟨S100, .f32⟩
  | .hbm, ⟨6, _⟩ => ⟨S100, .i32⟩
  | .hbm, ⟨7, _⟩ => ⟨S100x1, .f32⟩
  | .hbm, ⟨8, _⟩ => ⟨S100, .f32⟩
  | .hbm, ⟨9, _⟩ => ⟨S100, .i32⟩
  | .hbm, ⟨10, _⟩ => ⟨S_, .i32⟩
  | .hbm, ⟨11, _⟩ => ⟨S_, .i32⟩
  | .hbm, ⟨12, _⟩ => ⟨S100, .i32⟩
  | .hbm, ⟨13, _⟩ => ⟨S100, .i32⟩
  | .hbm, ⟨14, _⟩ => ⟨S100, .i32⟩
  | .hbm, ⟨15, _⟩ => ⟨S_, .i32⟩
  | .hbm, ⟨16, _⟩ => ⟨S100, .i32⟩
  | .hbm, ⟨17, _⟩ => ⟨S100, .i1⟩
  | .hbm, ⟨18, _⟩ => ⟨S100, .i32⟩
  | .hbm, ⟨19, _⟩ => ⟨S100, .i32⟩
  | .hbm, ⟨20, _⟩ => ⟨S_, .i32⟩
  | .hbm, ⟨21, _⟩ => ⟨S100, .i32⟩
  | .hbm, ⟨22, _⟩ => ⟨S100, .i1⟩
  | .hbm, ⟨23, _⟩ => ⟨S100, .i1⟩
  | .hbm, ⟨24, _⟩ => ⟨S_, .i32⟩
  | .hbm, ⟨25, _⟩ => ⟨S100, .i32⟩
  | .hbm, ⟨26, _⟩ => ⟨S100, .i32⟩
  | .hbm, ⟨27, _⟩ => ⟨S100, .i32⟩
  | .hbm, ⟨28, _⟩ => ⟨S_, .i32⟩
  | .hbm, ⟨29, _⟩ => ⟨S100, .i32⟩
  | .hbm, ⟨30, _⟩ => ⟨S_, .i32⟩
  | .hbm, ⟨31, _⟩ => ⟨S_, .i32⟩
  | .hbm, ⟨32, _⟩ => ⟨S100, .i32⟩
  | .hbm, ⟨33, _⟩ => ⟨S100, .i32⟩
  | .hbm, ⟨34, _⟩ => ⟨S100, .i32⟩
  | .hbm, ⟨35, _⟩ => ⟨S_, .i32⟩
  | .hbm, ⟨36, _⟩ => ⟨S100, .i32⟩
  | .hbm, ⟨37, _⟩ => ⟨S100, .i1⟩
  | .hbm, ⟨38, _⟩ => ⟨S100, .i32⟩
  | .hbm, ⟨39, _⟩ => ⟨S100, .i32⟩
  | .hbm, ⟨40, _⟩ => ⟨S_, .i32⟩
  | .hbm, ⟨41, _⟩ => ⟨S100, .i32⟩
  | .hbm, ⟨42, _⟩ => ⟨S100, .i1⟩
  | .hbm, ⟨43, _⟩ => ⟨S100, .i1⟩
  | .hbm, ⟨44, _⟩ => ⟨S_, .i32⟩
  | .hbm, ⟨45, _⟩ => ⟨S100, .i32⟩
  | .hbm, ⟨46, _⟩ => ⟨S100, .i32⟩
  | .hbm, ⟨47, _⟩ => ⟨S100, .i32⟩
  | .hbm, ⟨48, _⟩ => ⟨S_, .i32⟩
  | .hbm, ⟨49, _⟩ => ⟨S100, .i32⟩
  | .hbm, ⟨50, _⟩ => ⟨S100x512x512, .f32⟩
  | .hbm, ⟨51, _⟩ => ⟨S512x512x100, .f32⟩
  | .local _ .vmem, ⟨0, _⟩ => ⟨S6x256x384, .f32⟩
  | .local _ .vmem, ⟨1, _⟩ => ⟨S4x512x512, .f32⟩
  | .local _ .smem, ⟨0, _⟩ => ⟨S100, .i32⟩
  | .local _ .smem, ⟨1, _⟩ => ⟨S100, .i32⟩
  | .local _ .smem, ⟨2, _⟩ => ⟨S4x100, .f32⟩
  | _, _ => ⟨S512x512x100, .f32⟩

abbrev bufScoped : (cs : CoreSpace) → Fin (nBuf (.core cs)) → Bool
  | .vmem, ⟨0, _⟩ => true
  | .vmem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v11 : Ref sig .tc := ⟨.hbm, 47, rfl⟩
abbrev main_c_2 : Ref sig .tc := ⟨.hbm, 48, rfl⟩
abbrev main_v12 : Ref sig .tc := ⟨.hbm, 49, rfl⟩
abbrev main_v14 : Ref sig .tc := ⟨.hbm, 50, rfl⟩
abbrev main_v15 : Ref sig .tc := ⟨.hbm, 51, rfl⟩
abbrev main_v10 : Ref sig .tc := ⟨.smem, 0, rfl⟩
abbrev main_v13 : Ref sig .tc := ⟨.smem, 1, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := ⟨1, ![100], ![false]⟩

abbrev pre0 : Pipeline.Prefetch sig := ⟨2, ![main_v10.idx, main_v13.idx], fun | 0 => main_v10.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v80 : BitVec 32) (v82 : BitVec 32) : Fin 3 → Nat :=
  let c0_i32_22 : BitVec 32 := 0#32
  let c8_i32_19 : BitVec 32 := 8#32
  let v81 : BitVec 32 := Scalar.muli v80 c8_i32_19
  let c128_i32_21 : BitVec 32 := 128#32
  let v83 : BitVec 32 := Scalar.muli v82 c128_i32_21
  ![0, v81.toNat, v83.toNat]

def k0_chk1 (i : grid0.Coords) (v80 : BitVec 32) (v82 : BitVec 32) : Prop :=
  (∀ (k0_h1 : k0_cond1 i = 1#1), ∀ a, (k0_off1 v80 v82) a + S1x256x384.size a ≤ S100x512x512.size a)
theorem k0_off1_inb : ∀ (i : grid0.Coords) (v80 : BitVec 32) (v82 : BitVec 32) (k0_hw1 : k0_chk1 i v80 v82), ∀ (k0_h1 : k0_cond1 i = 1#1), ∀ a, (k0_off1 v80 v82) a + S1x256x384.size a ≤ S100x512x512.size a := fun i v80 v82 k0_hw1 k0_h1 => k0_hw1 k0_h1

def k0_off2 (v90 : BitVec 32) (v92 : BitVec 32) : Fin 3 → Nat :=
  let c1_i32_31 : BitVec 32 := 1#32
  let c8_i32_28 : BitVec 32 := 8#32
  let v91 : BitVec 32 := Scalar.muli v90 c8_i32_28
  let c128_i32_30 : BitVec 32 := 128#32
  let v93 : BitVec 32 := Scalar.muli v92 c128_i32_30
  ![1, v91.toNat, v93.toNat]

def k0_chk2 (i : grid0.Coords) (v90 : BitVec 32) (v92 : BitVec 32) : Prop :=
  (∀ (k0_h1 : k0_cond1 i = 1#1), ∀ a, (k0_off2 v90 v92) a + S1x256x384.size a ≤ S100x512x512.size a)
theorem k0_off2_inb : ∀ (i : grid0.Coords) (v90 : BitVec 32) (v92 : BitVec 32) (k0_hw2 : k0_chk2 i v90 v92), ∀ (k0_h1 : k0_cond1 i = 1#1), ∀ a, (k0_off2 v90 v92) a + S1x256x384.size a ≤ S100x512x512.size a := fun i v90 v92 k0_hw2 k0_h1 => k0_hw2 k0_h1

def k0_off3 (v100 : BitVec 32) (v102 : BitVec 32) : Fin 3 → Nat :=
  let c2_i32 : BitVec 32 := 2#32
  let c8_i32_37 : BitVec 32 := 8#32
  let v101 : BitVec 32 := Scalar.muli v100 c8_i32_37
  let c128_i32_39 : BitVec 32 := 128#32
  let v103 : BitVec 32 := Scalar.muli v102 c128_i32_39
  ![2, v101.toNat, v103.toNat]

def k0_chk3 (i : grid0.Coords) (v100 : BitVec 32) (v102 : BitVec 32) : Prop :=
  (∀ (k0_h1 : k0_cond1 i = 1#1), ∀ a, (k0_off3 v100 v102) a + S1x256x384.size a ≤ S100x512x512.size a)
theorem k0_off3_inb : ∀ (i : grid0.Coords) (v100 : BitVec 32) (v102 : BitVec 32) (k0_hw3 : k0_chk3 i v100 v102), ∀ (k0_h1 : k0_cond1 i = 1#1), ∀ a, (k0_off3 v100 v102) a + S1x256x384.size a ≤ S100x512x512.size a := fun i v100 v102 k0_hw3 k0_h1 => k0_hw3 k0_h1

def k0_off4 (v110 : BitVec 32) (v112 : BitVec 32) : Fin 3 → Nat :=
  let c3_i32 : BitVec 32 := 3#32
  let c8_i32_45 : BitVec 32 := 8#32
  let v111 : BitVec 32 := Scalar.muli v110 c8_i32_45
  let c128_i32_47 : BitVec 32 := 128#32
  let v113 : BitVec 32 := Scalar.muli v112 c128_i32_47
  ![3, v111.toNat, v113.toNat]

def k0_chk4 (i : grid0.Coords) (v110 : BitVec 32) (v112 : BitVec 32) : Prop :=
  (∀ (k0_h1 : k0_cond1 i = 1#1), ∀ a, (k0_off4 v110 v112) a + S1x256x384.size a ≤ S100x512x512.size a)
theorem k0_off4_inb : ∀ (i : grid0.Coords) (v110 : BitVec 32) (v112 : BitVec 32) (k0_hw4 : k0_chk4 i v110 v112), ∀ (k0_h1 : k0_cond1 i = 1#1), ∀ a, (k0_off4 v110 v112) a + S1x256x384.size a ≤ S100x512x512.size a := fun i v110 v112 k0_hw4 k0_h1 => k0_hw4 k0_h1

def k0_off5 (v120 : BitVec 32) (v122 : BitVec 32) : Fin 3 → Nat :=
  let c4_i32_55 : BitVec 32 := 4#32
  let c8_i32_52 : BitVec 32 := 8#32
  let v121 : BitVec 32 := Scalar.muli v120 c8_i32_52
  let c128_i32_54 : BitVec 32 := 128#32
  let v123 : BitVec 32 := Scalar.muli v122 c128_i32_54
  ![4, v121.toNat, v123.toNat]

def k0_chk5 (i : grid0.Coords) (v120 : BitVec 32) (v122 : BitVec 32) : Prop :=
  (∀ (k0_h1 : k0_cond1 i = 1#1), ∀ a, (k0_off5 v120 v122) a + S1x256x384.size a ≤ S100x512x512.size a)
theorem k0_off5_inb : ∀ (i : grid0.Coords) (v120 : BitVec 32) (v122 : BitVec 32) (k0_hw5 : k0_chk5 i v120 v122), ∀ (k0_h1 : k0_cond1 i = 1#1), ∀ a, (k0_off5 v120 v122) a + S1x256x384.size a ≤ S100x512x512.size a := fun i v120 v122 k0_hw5 k0_h1 => k0_hw5 k0_h1

def k0_cond2 (i : grid0.Coords) : BitVec 1 :=
  let arg0 : BitVec 32 := BitVec.ofNat 32 (i 0).val
  let c6_i32 : BitVec 32 := 6#32
  let v3 : BitVec 32 := Scalar.addi arg0 c6_i32
  let c1_i32 : BitVec 32 := 1#32
  let v4 : BitVec 32 := Scalar.subi v3 c1_i32
  let c100_i32 : BitVec 32 := 100#32
  let v5 : BitVec 1 := Scalar.cmpi .slt v4 c100_i32
  let v6 : BitVec 32 := Scalar.extui v5
  let c0_i32_1 : BitVec 32 := 0#32
  let v7 : BitVec 1 := Scalar.cmpi .ne v6 c0_i32_1
  v7

def k0_off6 (i : grid0.Coords) : Fin 1 → Nat :=
  let arg0 : BitVec 32 := BitVec.ofNat 32 (i 0).val
  let c6_i32 : BitVec 32 := 6#32
  let v3 : BitVec 32 := Scalar.addi arg0 c6_i32
  let c1_i32 : BitVec 32 := 1#32
  let v4 : BitVec 32 := Scalar.subi v3 c1_i32
  let v81 : Index := Scalar.indexCast v4
  ![v81.toNat]
def k0_off7 (i : grid0.Coords) : Fin 1 → Nat :=
  let arg0 : BitVec 32 := BitVec.ofNat 32 (i 0).val
  let c6_i32 : BitVec 32 := 6#32
  let v3 : BitVec 32 := Scalar.addi arg0 c6_i32
  let c1_i32 : BitVec 32 := 1#32
  let v4 : BitVec 32 := Scalar.subi v3 c1_i32
  let c6_i32_18 : BitVec 32 := 6#32
  let v80 : BitVec 32 := Scalar.remsi v4 c6_i32_18
  ![v80.toNat]
def k0_off8 (i : grid0.Coords) : Fin 3 → Nat :=
  let arg0 : BitVec 32 := BitVec.ofNat 32 (i 0).val
  let c6_i32 : BitVec 32 := 6#32
  let v3 : BitVec 32 := Scalar.addi arg0 c6_i32
  let c1_i32 : BitVec 32 := 1#32
  let v4 : BitVec 32 := Scalar.subi v3 c1_i32
  let c6_i32_18 : BitVec 32 := 6#32
  let v80 : BitVec 32 := Scalar.remsi v4 c6_i32_18
  let c0_i32_21 : BitVec 32 := 0#32
  let c0_i32_22 : BitVec 32 := 0#32
  ![v80.toNat, 0, 0]
def k0_off9 (i : grid0.Coords) (v82 : BitVec 32) (v85 : BitVec 32) : Fin 3 → Nat :=
  let arg0 : BitVec 32 := BitVec.ofNat 32 (i 0).val
  let c6_i32 : BitVec 32 := 6#32
  let v3 : BitVec 32 := Scalar.addi arg0 c6_i32
  let c1_i32 : BitVec 32 := 1#32
  let v4 : BitVec 32 := Scalar.subi v3 c1_i32
  let c8_i32_19 : BitVec 32 := 8#32
  let v83 : BitVec 32 := Scalar.muli v82 c8_i32_19
  let c128_i32_20 : BitVec 32 := 128#32
  let v86 : BitVec 32 := Scalar.muli v85 c128_i32_20
  ![v4.toNat, v83.toNat, v86.toNat]

def k0_chk6 (i : grid0.Coords) (v82 : BitVec 32) (v85 : BitVec 32) : Prop :=
  (∀ (k0_h2 : k0_cond2 i = 1#1), ∀ a, (k0_off9 i v82 v85) a + S1x256x384.size a ≤ S100x512x512.size a)
theorem k0_off9_inb : ∀ (i : grid0.Coords) (v82 : BitVec 32) (v85 : BitVec 32) (k0_hw6 : k0_chk6 i v82 v85), ∀ (k0_h2 : k0_cond2 i = 1#1), ∀ a, (k0_off9 i v82 v85) a + S1x256x384.size a ≤ S100x512x512.size a := fun i v82 v85 k0_hw6 k0_h2 => k0_hw6 k0_h2

def k0_off10 (i : grid0.Coords) : Fin 1 → Nat :=
  let arg0 : BitVec 32 := BitVec.ofNat 32 (i 0).val
  let v9 : Index := Scalar.indexCast arg0
  ![v9.toNat]
def k0_off11 (i : grid0.Coords) : Fin 1 → Nat :=
  let arg0 : BitVec 32 := BitVec.ofNat 32 (i 0).val
  let c6_i32_2 : BitVec 32 := 6#32
  let v8 : BitVec 32 := Scalar.remsi arg0 c6_i32_2
  ![v8.toNat]
def k0_off12 (i : grid0.Coords) : Fin 3 → Nat :=
  let arg0 : BitVec 32 := BitVec.ofNat 32 (i 0).val
  let c6_i32_2 : BitVec 32 := 6#32
  let v8 : BitVec 32 := Scalar.remsi arg0 c6_i32_2
  let c0_i32_3 : BitVec 32 := 0#32
  let c0_i32_4 : BitVec 32 := 0#32
  ![v8.toNat, 0, 0]
def k0_off13 (i : grid0.Coords) (v10 : BitVec 32) (v13 : BitVec 32) : Fin 3 → Nat :=
  let arg0 : BitVec 32 := BitVec.ofNat 32 (i 0).val
  let c8_i32 : BitVec 32 := 8#32
  let v11 : BitVec 32 := Scalar.muli v10 c8_i32
  let c128_i32 : BitVec 32 := 128#32
  let v14 : BitVec 32 := Scalar.muli v13 c128_i32
  ![arg0.toNat, v11.toNat, v14.toNat]

def k0_cond3 (i : grid0.Coords) : BitVec 1 :=
  let arg0 : BitVec 32 := BitVec.ofNat 32 (i 0).val
  let c4_i32_5 : BitVec 32 := 4#32
  let v22 : BitVec 1 := Scalar.cmpi .sge arg0 c4_i32_5
  let v23 : BitVec 32 := Scalar.extui v22
  let c0_i32_6 : BitVec 32 := 0#32
  let v24 : BitVec 1 := Scalar.cmpi .ne v23 c0_i32_6
  v24

def k0_off14 (i : grid0.Coords) : Fin 1 → Nat :=
  let arg0 : BitVec 32 := BitVec.ofNat 32 (i 0).val
  let c4_i32 : BitVec 32 := 4#32
  let v21 : BitVec 32 := Scalar.remsi arg0 c4_i32
  ![v21.toNat]
def k0_off15 (i : grid0.Coords) : Fin 3 → Nat :=
  let arg0 : BitVec 32 := BitVec.ofNat 32 (i 0).val
  let c4_i32_18 : BitVec 32 := 4#32
  let v80 : BitVec 32 := Scalar.subi arg0 c4_i32_18
  let c0_i32_19 : BitVec 32 := 0#32
  let c0_i32_20 : BitVec 32 := 0#32
  ![v80.toNat, 0, 0]
def k0_off16 (i : grid0.Coords) : Fin 3 → Nat :=
  let arg0 : BitVec 32 := BitVec.ofNat 32 (i 0).val
  let c4_i32 : BitVec 32 := 4#32
  let v21 : BitVec 32 := Scalar.remsi arg0 c4_i32
  let c0_i32_21 : BitVec 32 := 0#32
  let c0_i32_22 : BitVec 32 := 0#32
  ![v21.toNat, 0, 0]
def k0_off17 (i : grid0.Coords) : Fin 2 → Nat :=
  let c0 : Index := 0#32
  let arg0 : BitVec 32 := BitVec.ofNat 32 (i 0).val
  let v25 : Index := Scalar.indexCast arg0
  ![0, v25.toNat]
def k0_off18 (i : grid0.Coords) : Fin 2 → Nat :=
  let c1 : Index := 1#32
  let arg0 : BitVec 32 := BitVec.ofNat 32 (i 0).val
  let v27 : Index := Scalar.indexCast arg0
  ![1, v27.toNat]
def k0_off19 (i : grid0.Coords) : Fin 2 → Nat :=
  let c2 : Index := 2#32
  let arg0 : BitVec 32 := BitVec.ofNat 32 (i 0).val
  let v29 : Index := Scalar.indexCast arg0
  ![2, v29.toNat]
def k0_off20 (i : grid0.Coords) : Fin 2 → Nat :=
  let c3 : Index := 3#32
  let arg0 : BitVec 32 := BitVec.ofNat 32 (i 0).val
  let v31 : Index := Scalar.indexCast arg0
  ![3, v31.toNat]
def k0_cond4 (i : grid0.Coords) : BitVec 1 :=
  let arg0 : BitVec 32 := BitVec.ofNat 32 (i 0).val
  let c4_i32_7 : BitVec 32 := 4#32
  let v33 : BitVec 1 := Scalar.cmpi .slt arg0 c4_i32_7
  let v34 : BitVec 32 := Scalar.extui v33
  let c0_i32_8 : BitVec 32 := 0#32
  let v35 : BitVec 1 := Scalar.cmpi .ne v34 c0_i32_8
  v35

def k0_off21 (i : grid0.Coords) : Fin 3 → Nat :=
  let arg0 : BitVec 32 := BitVec.ofNat 32 (i 0).val
  let c4_i32 : BitVec 32 := 4#32
  let v21 : BitVec 32 := Scalar.remsi arg0 c4_i32
  let v81 : Index := Scalar.indexCast v21
  let c0_19 : Index := 0#32
  let c0_20 : Index := 0#32
  ![v81.toNat, 0, 0]
def k0_cond5 (i : grid0.Coords) : BitVec 1 :=
  let arg0 : BitVec 32 := BitVec.ofNat 32 (i 0).val
  let c4_i32_9 : BitVec 32 := 4#32
  let v36 : BitVec 1 := Scalar.cmpi .sge arg0 c4_i32_9
  let v37 : BitVec 32 := Scalar.extui v36
  let c0_i32_10 : BitVec 32 := 0#32
  let v38 : BitVec 1 := Scalar.cmpi .ne v37 c0_i32_10
  v38

def k0_off22 (i : grid0.Coords) : Fin 1 → Nat :=
  let arg0 : BitVec 32 := BitVec.ofNat 32 (i 0).val
  let c4_i32_19 : BitVec 32 := 4#32
  let v81 : BitVec 32 := Scalar.subi arg0 c4_i32_19
  let v82 : Index := Scalar.indexCast v81
  ![v82.toNat]
def k0_off23 (i : grid0.Coords) (v83 : BitVec 32) (v87 : BitVec 32) : Fin 3 → Nat :=
  let arg0 : BitVec 32 := BitVec.ofNat 32 (i 0).val
  let c4_i32 : BitVec 32 := 4#32
  let v21 : BitVec 32 := Scalar.remsi arg0 c4_i32
  let v89 : Index := Scalar.indexCast v21
  let c8_i32_20 : BitVec 32 := 8#32
  let v84 : BitVec 32 := Scalar.muli v83 c8_i32_20
  let v90 : Index := Scalar.indexCast v84
  let c128_i32_22 : BitVec 32 := 128#32
  let v88 : BitVec 32 := Scalar.muli v87 c128_i32_22
  let v91 : Index := Scalar.indexCast v88
  ![v89.toNat, v90.toNat, v91.toNat]

def k0_chk8 (i : grid0.Coords) (v83 : BitVec 32) (v87 : BitVec 32) : Prop :=
  (∀ (k0_h5 : k0_cond5 i = 1#1), ∀ a, (k0_off23 i v83 v87) a + S1x256x384.size a ≤ S4x512x512.size a)
theorem k0_off23_inb : ∀ (i : grid0.Coords) (v83 : BitVec 32) (v87 : BitVec 32) (k0_hw8 : k0_chk8 i v83 v87), ∀ (k0_h5 : k0_cond5 i = 1#1), ∀ a, (k0_off23 i v83 v87) a + S1x256x384.size a ≤ S4x512x512.size a := fun i v83 v87 k0_hw8 k0_h5 => k0_hw8 k0_h5

def k0_off24 (i : grid0.Coords) : Fin 3 → Nat :=
  let arg0 : BitVec 32 := BitVec.ofNat 32 (i 0).val
  let c6_i32_2 : BitVec 32 := 6#32
  let v8 : BitVec 32 := Scalar.remsi arg0 c6_i32_2
  let v60 : Index := Scalar.indexCast v8
  let c0_11 : Index := 0#32
  let c0_12 : Index := 0#32
  ![v60.toNat, 0, 0]
def k0_off25 (i : grid0.Coords) (v10 : BitVec 32) (v13 : BitVec 32) : Fin 3 → Nat :=
  let arg0 : BitVec 32 := BitVec.ofNat 32 (i 0).val
  let c4_i32 : BitVec 32 := 4#32
  let v21 : BitVec 32 := Scalar.remsi arg0 c4_i32
  let v65 : Index := Scalar.indexCast v21
  let c8_i32 : BitVec 32 := 8#32
  let v11 : BitVec 32 := Scalar.muli v10 c8_i32
  let v66 : Index := Scalar.indexCast v11
  let c128_i32 : BitVec 32 := 128#32
  let v14 : BitVec 32 := Scalar.muli v13 c128_i32
  let v67 : Index := Scalar.indexCast v14
  ![v65.toNat, v66.toNat, v67.toNat]

def k0_chk7 (i : grid0.Coords) (v10 : BitVec 32) (v13 : BitVec 32) : Prop :=
  (∀ a, (k0_off13 i v10 v13) a + S1x256x384.size a ≤ S100x512x512.size a) ∧
  (∀ a, (k0_off25 i v10 v13) a + S1x256x384.size a ≤ S4x512x512.size a)
theorem k0_off13_inb : ∀ (i : grid0.Coords) (v10 : BitVec 32) (v13 : BitVec 32) (k0_hw7 : k0_chk7 i v10 v13), ∀ a, (k0_off13 i v10 v13) a + S1x256x384.size a ≤ S100x512x512.size a := fun i v10 v13 k0_hw7 => k0_hw7.1
theorem k0_off25_inb : ∀ (i : grid0.Coords) (v10 : BitVec 32) (v13 : BitVec 32) (k0_hw7 : k0_chk7 i v10 v13), ∀ a, (k0_off25 i v10 v13) a + S1x256x384.size a ≤ S4x512x512.size a := fun i v10 v13 k0_hw7 => k0_hw7.2

def k0_off26 (i : grid0.Coords) : Fin 1 → Nat :=
  let arg0 : BitVec 32 := BitVec.ofNat 32 (i 0).val
  let c4_i32 : BitVec 32 := 4#32
  let v21 : BitVec 32 := Scalar.remsi arg0 c4_i32
  ![v21.toNat]
def k0_off27 (i : grid0.Coords) : Fin 3 → Nat :=
  let arg0 : BitVec 32 := BitVec.ofNat 32 (i 0).val
  let c0_i32_13 : BitVec 32 := 0#32
  let c0_i32_14 : BitVec 32 := 0#32
  ![arg0.toNat, 0, 0]
def k0_off28 (i : grid0.Coords) : Fin 3 → Nat :=
  let arg0 : BitVec 32 := BitVec.ofNat 32 (i 0).val
  let c4_i32 : BitVec 32 := 4#32
  let v21 : BitVec 32 := Scalar.remsi arg0 c4_i32
  let c0_i32_15 : BitVec 32 := 0#32
  let c0_i32_16 : BitVec 32 := 0#32
  ![v21.toNat, 0, 0]
def k0_cond6 (i : grid0.Coords) : BitVec 1 :=
  let arg0 : BitVec 32 := BitVec.ofNat 32 (i 0).val
  let c99_i32 : BitVec 32 := 99#32
  let v77 : BitVec 1 := Scalar.cmpi .eq arg0 c99_i32
  let v78 : BitVec 32 := Scalar.extui v77
  let c0_i32_17 : BitVec 32 := 0#32
  let v79 : BitVec 1 := Scalar.cmpi .ne v78 c0_i32_17
  v79

def k0_off29 (i : grid0.Coords) (c0_i32_19 : BitVec 32) : Fin 1 → Nat :=
  let arg0 : BitVec 32 := BitVec.ofNat 32 (i 0).val
  let v81 : BitVec 32 := Scalar.subi arg0 c0_i32_19
  let c4_i32_20 : BitVec 32 := 4#32
  let v82 : BitVec 32 := Scalar.remsi v81 c4_i32_20
  ![v82.toNat]
def k0_off30 (i : grid0.Coords) (c0_i32_18 : BitVec 32) : Fin 3 → Nat :=
  let arg0 : BitVec 32 := BitVec.ofNat 32 (i 0).val
  let v80 : BitVec 32 := Scalar.subi arg0 c0_i32_18
  let c0_i32_21 : BitVec 32 := 0#32
  let c0_i32_22 : BitVec 32 := 0#32
  ![v80.toNat, 0, 0]
def k0_off31 (i : grid0.Coords) (c0_i32_19 : BitVec 32) : Fin 3 → Nat :=
  let arg0 : BitVec 32 := BitVec.ofNat 32 (i 0).val
  let v81 : BitVec 32 := Scalar.subi arg0 c0_i32_19
  let c4_i32_20 : BitVec 32 := 4#32
  let v82 : BitVec 32 := Scalar.remsi v81 c4_i32_20
  let c0_i32_23 : BitVec 32 := 0#32
  let c0_i32_24 : BitVec 32 := 0#32
  ![v82.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S512x512x100 : Shape := ⟨3, ![512, 512, 100]⟩
abbrev S100x4 : Shape := ⟨2, ![100, 4]⟩
abbrev S512 : Shape := ⟨1, ![512]⟩
abbrev S512x1x1 : Shape := ⟨3, ![512, 1, 1]⟩
abbrev S1x512x1 : Shape := ⟨3, ![1, 512, 1]⟩
abbrev S100x1 : Shape := ⟨2, ![100, 1]⟩
abbrev S100 : Shape := ⟨1, ![100]⟩
abbrev S1x1x100 : Shape := ⟨3, ![1, 1, 100]⟩
abbrev S1x512x100 : Shape := ⟨3, ![1, 512, 100]⟩
abbrev S512x1x100 : Shape := ⟨3, ![512, 1, 100]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x512x100, .f32⟩
  | .hbm, ⟨1, _⟩ => ⟨S100x4, .f32⟩
  | .hbm, ⟨2, _⟩ => ⟨S512, .f32⟩
  | .hbm, ⟨3, _⟩ => ⟨S512x1x1, .f32⟩
  | .hbm, ⟨4, _⟩ => ⟨S512, .f32⟩
  | .hbm, ⟨5, _⟩ => ⟨S1x512x1, .f32⟩
  | .hbm, ⟨6, _⟩ => ⟨S100x1, .f32⟩
  | .hbm, ⟨7, _⟩ => ⟨S100, .f32⟩
  | .hbm, ⟨8, _⟩ => ⟨S1x1x100, .f32⟩
  | .hbm, ⟨9, _⟩ => ⟨S100x1, .f32⟩
  | .hbm, ⟨10, _⟩ => ⟨S100, .f32⟩
  | .hbm, ⟨11, _⟩ => ⟨S1x1x100, .f32⟩
  | .hbm, ⟨12, _⟩ => ⟨S100x1, .f32⟩
  | .hbm, ⟨13, _⟩ => ⟨S100, .f32⟩
  | .hbm, ⟨14, _⟩ => ⟨S1x1x100, .f32⟩
  | .hbm, ⟨15, _⟩ => ⟨S100x1, .f32⟩
  | .hbm, ⟨16, _⟩ => ⟨S100, .f32⟩
  | .hbm, ⟨17, _⟩ => ⟨S1x1x100, .f32⟩
  | .hbm, ⟨18, _⟩ => ⟨S1x512x100, .f32⟩
  | .hbm, ⟨19, _⟩ => ⟨S1x512x100, .f32⟩
  | .hbm, ⟨20, _⟩ => ⟨S1x512x100, .i1⟩
  | .hbm, ⟨21, _⟩ => ⟨S1x512x100, .f32⟩
  | .hbm, ⟨22, _⟩ => ⟨S1x512x100, .f32⟩
  | .hbm, ⟨23, _⟩ => ⟨S1x512x100, .i1⟩
  | .hbm, ⟨24, _⟩ => ⟨S1x512x100, .i1⟩
  | .hbm, ⟨25, _⟩ => ⟨S512x1x100, .f32⟩
  | .hbm, ⟨26, _⟩ => ⟨S512x1x100, .f32⟩
  | .hbm, ⟨27, _⟩ => ⟨S512x1x100, .i1⟩
  | .hbm, ⟨28, _⟩ => ⟨S512x512x100, .i1⟩
  | .hbm, ⟨29, _⟩ => ⟨S512x512x100, .i1⟩
  | .hbm, ⟨30, _⟩ => ⟨S512x512x100, .i1⟩
  | .hbm, ⟨31, _⟩ => ⟨S512x1x100, .f32⟩
  | .hbm, ⟨32, _⟩ => ⟨S512x1x100, .f32⟩
  | .hbm, ⟨33, _⟩ => ⟨S512x1x100, .i1⟩
  | .hbm, ⟨34, _⟩ => ⟨S512x512x100, .i1⟩
  | .hbm, ⟨35, _⟩ => ⟨S512x512x100, .i1⟩
  | .hbm, ⟨36, _⟩ => ⟨S_, .f32⟩
  | .hbm, ⟨37, _⟩ => ⟨S512x512x100, .f32⟩
  | .hbm, ⟨38, _⟩ => ⟨S512x512x100, .f32⟩
  | _, _ => ⟨S512x512x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_cst : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== Proof.Turns.lean ====
/-
  A ring of `NS` slots used in turn by jobs `0, 1, 2, …`, job `k` in slot `k % NS`: the resources of the ring while
  jobs `a, …, b - 1` are under way, and how they change when a job starts and when the oldest ends.
-/
module

public import Idealize.ShloMosaic.Lib.Ring
public import Idealize.ShloMosaic.Lib.Tactic

@[expose] public section

noncomputable section

namespace Cert.Proof.Turns

open Idealize.SL Idealize.SL.RA Idealize.SL.BI
open scoped Idealize.SL.BI
open Idealize.SL.BI.BIBase Idealize.SL.BI.Laws Idealize.SL.ProofMode

variable {M : Type} [URA M] (NS : ℕ) (free fly : ℕ → sProp M)

/-- The first job at or after `a` that slot `s` serves. -/
def job (a s : ℕ) : ℕ := a + (s + NS - a % NS) % NS

/-- Slot `s` while jobs `a, …, b - 1` are under way: taken by its job, or free. -/
def slotAt (a b s : ℕ) : sProp M := if job NS a s < b then fly (job NS a s) else free s

/-- The whole ring while jobs `a, …, b - 1` are under way. -/
def ring (a b : ℕ) : sProp M := bigSep (Finset.range NS) (slotAt NS free fly a b)

/-- The ring without the slot of job `k`. -/
def others (a b k : ℕ) : sProp M := bigSep ((Finset.range NS).erase (k % NS)) (slotAt NS free fly a b)

variable {NS}

theorem job_mod (hNS : 0 < NS) (a s : ℕ) (hs : s < NS) : job NS a s % NS = s := by
  unfold job
  have ha := Nat.mod_lt a hNS
  have hd := Nat.div_add_mod a NS
  rcases Nat.lt_or_ge s (a % NS) with h | h
  · rw [Nat.mod_eq_of_lt (show s + NS - a % NS < NS by omega)]
    have e : a + (s + NS - a % NS) = s + NS * (a / NS + 1) := by rw [Nat.mul_add]; omega
    rw [e, Nat.add_mul_mod_self_left, Nat.mod_eq_of_lt hs]
  · rw [show s + NS - a % NS = s - a % NS + NS by omega, Nat.add_mod_right, Nat.mod_eq_of_lt (show s - a % NS < NS by omega)]
    have e : a + (s - a % NS) = s + NS * (a / NS) := by omega
    rw [e, Nat.add_mul_mod_self_left, Nat.mod_eq_of_lt hs]

theorem job_range (hNS : 0 < NS) (a s : ℕ) : a ≤ job NS a s ∧ job NS a s < a + NS := by
  unfold job; have := Nat.mod_lt (s + NS - a % NS) hNS; omega

/-- The job of a slot is the only one in its range with that remainder. -/
theorem job_unique (hNS : 0 < NS) (a k : ℕ) (h : a ≤ k) (h' : k < a + NS) : job NS a (k % NS) = k := by
  have h1 := job_range hNS a (k % NS)
  have h2 := job_mod hNS a (k % NS) (Nat.mod_lt _ hNS)
  have h3 := Nat.div_add_mod k NS
  have h4 := Nat.div_add_mod (job NS a (k % NS)) NS
  rw [h2] at h4
  rcases Nat.lt_trichotomy (job NS a (k % NS) / NS) (k / NS) with h5 | h5 | h5
  · have := Nat.mul_le_mul_left NS (Nat.succ_le_of_lt h5); rw [Nat.mul_succ] at this; omega
  · rw [h5] at h4; omega
  · have := Nat.mul_le_mul_left NS (Nat.succ_le_of_lt h5); rw [Nat.mul_succ] at this; omega

theorem split_at (hNS : 0 < NS) (a b k : ℕ) :
    ring NS free fly a b = iprop(slotAt NS free fly a b (k % NS) ∗ others NS free fly a b k) := by
  unfold ring others
  exact bigSep_erase (Finset.mem_range.2 (Nat.mod_lt k hNS))

/-- A slot other than job `b`'s does not see job `b` start. -/
theorem others_start (hNS : 0 < NS) (a b : ℕ) : others NS free fly a (b + 1) b = others NS free fly a b b := by
  unfold others
  refine bigSep_congr fun s hs => ?_
  obtain ⟨hne, hs⟩ := Finset.mem_erase.1 hs
  have hm := job_mod hNS a s (Finset.mem_range.1 hs)
  have : job NS a s ≠ b := fun e => hne (by rw [← hm, e])
  unfold slotAt
  by_cases h : job NS a s < b
  · rw [if_pos h, if_pos (by omega)]
  · rw [if_neg h, if_neg (by omega)]

/-- A slot other than job `a`'s does not see job `a` end. -/
theorem others_end (hNS : 0 < NS) (a b : ℕ) : others NS free fly (a + 1) b a = others NS free fly a b a := by
  unfold others
  refine bigSep_congr fun s hs => ?_
  obtain ⟨hne, hs⟩ := Finset.mem_erase.1 hs
  have hs := Finset.mem_range.1 hs
  have hm := job_mod hNS a s hs
  have hr := job_range hNS a s
  have h0 : job NS a s ≠ a := fun e => hne (by rw [← hm, e])
  have e : job NS (a + 1) s = job NS a s := by
    have := job_unique hNS (a + 1) (job NS a s) (by omega) (by omega)
    rwa [hm] at this
  unfold slotAt; rw [e]

/-- Before job `b` starts its slot is free, when at most `NS` jobs are then under way. -/
theorem ring_before_start (hNS : 0 < NS) {a b : ℕ} (h : a ≤ b) (h' : b < a + NS) :
    ring NS free fly a b = iprop(free (b % NS) ∗ others NS free fly a b b) := by
  rw [split_at free fly hNS a b b]; unfold slotAt
  rw [job_unique hNS a b h h', if_neg (Nat.lt_irrefl b)]

/-- Once job `b` has started its slot is taken by it. -/
theorem ring_after_start (hNS : 0 < NS) {a b : ℕ} (h : a ≤ b) (h' : b < a + NS) :
    ring NS free fly a (b + 1) = iprop(fly b ∗ others NS free fly a b b) := by
  rw [split_at free fly hNS a (b + 1) b, others_start free fly hNS]; unfold slotAt
  rw [job_unique hNS a b h h', if_pos (Nat.lt_succ_self b)]

/-- Before the oldest job `a` ends its slot is taken by it. -/
theorem ring_before_end (hNS : 0 < NS) {a b : ℕ} (h : a < b) :
    ring NS free fly a b = iprop(fly a ∗ others NS free fly a b a) := by
  rw [split_at free fly hNS a b a]; unfold slotAt
  rw [job_unique hNS a a le_rfl (by omega), if_pos h]

/-- Once the oldest job `a` has ended its slot is free, when at most `NS` jobs were under way. -/
theorem ring_after_end (hNS : 0 < NS) {a b : ℕ} (h' : b ≤ a + NS) :
    ring NS free fly (a + 1) b = iprop(free (a % NS) ∗ others NS free fly a b a) := by
  rw [split_at free fly hNS (a + 1) b a, others_end free fly hNS]; unfold slotAt
  have e : a % NS = (a + NS) % NS := (Nat.add_mod_right a NS).symm
  rw [e, job_unique hNS (a + 1) (a + NS) (by omega) (by omega), if_neg (by omega)]

/-- With no job under way every slot is free. -/
theorem ring_idle (hNS : 0 < NS) (a : ℕ) : ring NS free fly a a = bigSep (Finset.range NS) free := by
  unfold ring
  refine bigSep_congr fun s _ => ?_
  have := job_range hNS a s
  unfold slotAt; rw [if_neg (by omega)]

end Cert.Proof.Turns

end
-- ==== Proof.Words.lean ====
/-
  Index words: the host's floor division of a non-negative word by 8 or 128, clamped above, in natural numbers.
-/
module

public import Idealize.ShloMosaic.PureOps
@[expose] public section

namespace Cert.Proof.Words

open Idealize.ShloMosaic

/-- The sign of a word. -/
def sgn (a : BitVec 32) : BitVec 32 := if a = 0 then 0 else if a.msb then -1 else 1

/-- Floor division as the host computes it: the quotient toward zero, less one where the signs differ and a remainder is left. -/
def floorDiv (a k : BitVec 32) : BitVec 32 :=
  Scalar.select (IntOp.andi (IntOp.cmpi .ne (sgn a) (sgn k)) (IntOp.cmpi .ne (IntOp.remsi .host a k) 0#32))
    (IntOp.subi (IntOp.divsi .host a k) 1#32) (IntOp.divsi .host a k)

theorem cmpi_ne_self (a : BitVec 32) : IntOp.cmpi .ne a a = 0#1 := by
  show BitVec.ofBool (a != a) = 0#1
  rw [bne_self_eq_false]; rfl

theorem divsi_pos {a k : BitVec 32} (ha : a.msb = false) (hk : k = 8#32 ∨ k = 128#32) : IntOp.divsi .host a k = a / k := by
  have hc : ¬ IntOp.SDivCorner a k := by
    rintro (h | ⟨-, h⟩) <;> rcases hk with rfl | rfl <;> revert h <;> decide
  unfold IntOp.divsi
  rw [if_neg hc, BitVec.sdiv_eq, ha]
  rcases hk with rfl | rfl <;> rfl

theorem floorDiv_pos {a k : BitVec 32} (ha : a.msb = false) (hk : k = 8#32 ∨ k = 128#32) : floorDiv a k = a / k := by
  have hs : IntOp.andi (IntOp.cmpi .ne (sgn a) (sgn k)) (IntOp.cmpi .ne (IntOp.remsi .host a k) 0#32) = 0#1 := by
    by_cases h0 : a = 0
    · subst h0
      rcases hk with rfl | rfl <;> decide
    · have e : sgn a = sgn k := by
        unfold sgn
        rw [if_neg h0, ha]
        rcases hk with rfl | rfl <;> decide
      rw [e, cmpi_ne_self]
      show 0#1 &&& _ = 0#1
      exact BitVec.zero_and
  unfold floorDiv
  rw [hs, divsi_pos ha hk]
  rfl

/-- The smaller of a quotient and a small bound. -/
theorem minsi_toNat {a b : BitVec 32} (ha : a.toNat < 2 ^ 31) (hb : b.toNat < 2 ^ 31) : (IntOp.minsi a b).toNat = min a.toNat b.toNat := by
  unfold IntOp.minsi
  have e : a.slt b = decide (a.toNat < b.toNat) := by
    rw [BitVec.slt_eq_decide, BitVec.toInt_eq_toNat_of_lt (by omega), BitVec.toInt_eq_toNat_of_lt (by omega)]
    simp
  rw [e]
  by_cases h : a.toNat < b.toNat
  · rw [if_pos (by simpa using h)]; omega
  · rw [if_neg (by simpa using h)]; omega

theorem msb_of_nonneg {a : BitVec 32} (h : 0 ≤ a.toInt) : a.msb = false := by
  rw [BitVec.msb_eq_toInt]
  exact decide_eq_false (by omega)

/-- A clamped quotient of a non-negative word. -/
theorem clamp_toNat {a k b : BitVec 32} (h : 0 ≤ a.toInt) (hk : k = 8#32 ∨ k = 128#32) (hb : b.toNat < 2 ^ 31) :
    (IntOp.minsi (floorDiv a k) b).toNat = min (a.toInt.toNat / k.toNat) b.toNat := by
  have hm := msb_of_nonneg h
  have ha : a.toInt = a.toNat := BitVec.toInt_eq_toNat_of_msb hm
  have hlt : a.toNat < 2 ^ 31 := by have := BitVec.msb_eq_false_iff_two_mul_lt.1 hm; omega
  rw [floorDiv_pos hm hk, minsi_toNat _ hb, BitVec.toNat_udiv, ha, Int.toNat_natCast]
  rw [BitVec.toNat_udiv]
  exact lt_of_le_of_lt (Nat.div_le_self _ _) hlt

end Cert.Proof.Words
-- ==== Proof.OffsetsIdeal.lean ====
/-
  The crop kernel's scalar arithmetic in closed form: the conditions of its `scf.if`s and the offsets of its table
  reads, semaphore cells, buffer slots and image windows, as functions of the grid step `n`.
-/
module

public import proofs.«01_k».proof.Defs
public import proofs.«01_k».proof.Proof.Gen.KernelIdeal.Launch
public import proofs.«01_k».proof.Proof.Gen.KernelIdeal.Skeleton

@[expose] public section

namespace Cert.Proof.CropIdeal

open Cert.KernelIdeal Cert.KernelIdeal.Gen
open Idealize.ShloMosaic

/-! ## Words below the grid's bound -/

/-- A step number as a word reads back as itself, -/
theorem word_n : ∀ n : Fin 100, (BitVec.ofNat 32 n.val).toNat = n.val := by decide +kernel
/-- so does its remainder by six, -/
theorem word_rem6 : ∀ n : Fin 100, (Scalar.remsi (BitVec.ofNat 32 n.val) 6#32).toNat = n.val % 6 := by decide +kernel
/-- and by four. -/
theorem word_rem4 : ∀ n : Fin 100, (Scalar.remsi (BitVec.ofNat 32 n.val) 4#32).toNat = n.val % 4 := by decide +kernel
/-- The image five steps ahead, -/
theorem word_ahead : ∀ n : Fin 100, (Scalar.subi (Scalar.addi (BitVec.ofNat 32 n.val) 6#32) 1#32).toNat = n.val + 5 := by decide +kernel
/-- and its slot. -/
theorem word_ahead6 : ∀ n : Fin 100,
    (Scalar.remsi (Scalar.subi (Scalar.addi (BitVec.ofNat 32 n.val) 6#32) 1#32) 6#32).toNat = (n.val + 5) % 6 := by decide +kernel
/-- The image four steps behind. -/
theorem word_behind : ∀ n : Fin 100, 4 ≤ n.val → (Scalar.subi (BitVec.ofNat 32 n.val) 4#32).toNat = n.val - 4 := by decide +kernel
/-- At the last step, image `99 - j`, -/
theorem word_last : ∀ j : Fin 4, (Scalar.subi (BitVec.ofNat 32 99) (BitVec.ofNat 32 j.val)).toNat = 99 - j.val := by decide +kernel
/-- and its slot. -/
theorem word_last4 : ∀ j : Fin 4,
    (Scalar.remsi (Scalar.subi (BitVec.ofNat 32 99) (BitVec.ofNat 32 j.val)) 4#32).toNat = (99 - j.val) % 4 := by decide +kernel

variable (i : grid0.Coords) (n : ℕ) (hi : (i 0).val = n) (hn : n < 100)
include hi hn

/-! ## Conditions -/

theorem cond1_iff : k0_cond1 i = 1#1 ↔ n = 0 := by
  have h : ∀ n : Fin 100, Scalar.cmpi .ne (Scalar.extui (Scalar.cmpi .eq (BitVec.ofNat 32 n.val) 0#32) : BitVec 32) 0#32 = 1#1 ↔ n.val = 0 := by
    decide +kernel
  simp only [k0_cond1, hi]; exact h ⟨n, hn⟩
theorem cond2_iff : k0_cond2 i = 1#1 ↔ n + 5 < 100 := by
  have h : ∀ n : Fin 100, Scalar.cmpi .ne (Scalar.extui (Scalar.cmpi .slt (Scalar.subi (Scalar.addi (BitVec.ofNat 32 n.val) 6#32) 1#32) 100#32) : BitVec 32) 0#32 = 1#1
      ↔ n.val + 5 < 100 := by decide +kernel
  simp only [k0_cond2, hi]; exact h ⟨n, hn⟩
theorem cond3_iff : k0_cond3 i = 1#1 ↔ 4 ≤ n := by
  have h : ∀ n : Fin 100, Scalar.cmpi .ne (Scalar.extui (Scalar.cmpi .sge (BitVec.ofNat 32 n.val) 4#32) : BitVec 32) 0#32 = 1#1 ↔ 4 ≤ n.val := by
    decide +kernel
  simp only [k0_cond3, hi]; exact h ⟨n, hn⟩
theorem cond4_iff : k0_cond4 i = 1#1 ↔ n < 4 := by
  have h : ∀ n : Fin 100, Scalar.cmpi .ne (Scalar.extui (Scalar.cmpi .slt (BitVec.ofNat 32 n.val) 4#32) : BitVec 32) 0#32 = 1#1 ↔ n.val < 4 := by
    decide +kernel
  simp only [k0_cond4, hi]; exact h ⟨n, hn⟩
theorem cond5_iff : k0_cond5 i = 1#1 ↔ 4 ≤ n := cond3_iff i n hi hn
theorem cond6_iff : k0_cond6 i = 1#1 ↔ n = 99 := by
  have h : ∀ n : Fin 100, Scalar.cmpi .ne (Scalar.extui (Scalar.cmpi .eq (BitVec.ofNat 32 n.val) 99#32) : BitVec 32) 0#32 = 1#1 ↔ n.val = 99 := by
    decide +kernel
  simp only [k0_cond6, hi]; exact h ⟨n, hn⟩

/-! ## Offsets -/

theorem off6_eq : k0_off6 i = ![n + 5] := by
  simp only [k0_off6, hi]; exact congrArg (fun x : ℕ => (![x] : Fin 1 → ℕ)) (word_ahead ⟨n, hn⟩)
theorem off7_eq : k0_off7 i = ![(n + 5) % 6] := by
  simp only [k0_off7, hi]; exact congrArg (fun x : ℕ => (![x] : Fin 1 → ℕ)) (word_ahead6 ⟨n, hn⟩)
theorem off8_eq : k0_off8 i = ![(n + 5) % 6, 0, 0] := by
  simp only [k0_off8, hi]; exact congrArg (fun x : ℕ => (![x, 0, 0] : Fin 3 → ℕ)) (word_ahead6 ⟨n, hn⟩)
theorem off9_eq (a b : BitVec 32) : k0_off9 i a b = ![n + 5, (Scalar.muli a 8#32).toNat, (Scalar.muli b 128#32).toNat] := by
  simp only [k0_off9, hi]
  exact congrArg (fun x : ℕ => (![x, (Scalar.muli a 8#32).toNat, (Scalar.muli b 128#32).toNat] : Fin 3 → ℕ)) (word_ahead ⟨n, hn⟩)
theorem off10_eq : k0_off10 i = ![n] := by
  simp only [k0_off10, hi]; exact congrArg (fun x : ℕ => (![x] : Fin 1 → ℕ)) (word_n ⟨n, hn⟩)
theorem off11_eq : k0_off11 i = ![n % 6] := by
  simp only [k0_off11, hi]; exact congrArg (fun x : ℕ => (![x] : Fin 1 → ℕ)) (word_rem6 ⟨n, hn⟩)
theorem off12_eq : k0_off12 i = ![n % 6, 0, 0] := by
  simp only [k0_off12, hi]; exact congrArg (fun x : ℕ => (![x, 0, 0] : Fin 3 → ℕ)) (word_rem6 ⟨n, hn⟩)
theorem off13_eq (a b : BitVec 32) : k0_off13 i a b = ![n, (Scalar.muli a 8#32).toNat, (Scalar.muli b 128#32).toNat] := by
  simp only [k0_off13, hi]
  exact congrArg (fun x : ℕ => (![x, (Scalar.muli a 8#32).toNat, (Scalar.muli b 128#32).toNat] : Fin 3 → ℕ)) (word_n ⟨n, hn⟩)
theorem off14_eq : k0_off14 i = ![n % 4] := by
  simp only [k0_off14, hi]; exact congrArg (fun x : ℕ => (![x] : Fin 1 → ℕ)) (word_rem4 ⟨n, hn⟩)
theorem off15_eq (h4 : 4 ≤ n) : k0_off15 i = ![n - 4, 0, 0] := by
  simp only [k0_off15, hi]; exact congrArg (fun x : ℕ => (![x, 0, 0] : Fin 3 → ℕ)) (word_behind ⟨n, hn⟩ h4)
theorem off16_eq : k0_off16 i = ![n % 4, 0, 0] := by
  simp only [k0_off16, hi]; exact congrArg (fun x : ℕ => (![x, 0, 0] : Fin 3 → ℕ)) (word_rem4 ⟨n, hn⟩)
theorem off17_eq : k0_off17 i = ![0, n] := by
  simp only [k0_off17, hi]; exact congrArg (fun x : ℕ => (![0, x] : Fin 2 → ℕ)) (word_n ⟨n, hn⟩)
theorem off18_eq : k0_off18 i = ![1, n] := by
  simp only [k0_off18, hi]; exact congrArg (fun x : ℕ => (![1, x] : Fin 2 → ℕ)) (word_n ⟨n, hn⟩)
theorem off19_eq : k0_off19 i = ![2, n] := by
  simp only [k0_off19, hi]; exact congrArg (fun x : ℕ => (![2, x] : Fin 2 → ℕ)) (word_n ⟨n, hn⟩)
theorem off20_eq : k0_off20 i = ![3, n] := by
  simp only [k0_off20, hi]; exact congrArg (fun x : ℕ => (![3, x] : Fin 2 → ℕ)) (word_n ⟨n, hn⟩)
theorem off21_eq : k0_off21 i = ![n % 4, 0, 0] := by
  simp only [k0_off21, hi]; exact congrArg (fun x : ℕ => (![x, 0, 0] : Fin 3 → ℕ)) (word_rem4 ⟨n, hn⟩)
theorem off22_eq (h4 : 4 ≤ n) : k0_off22 i = ![n - 4] := by
  simp only [k0_off22, hi]; exact congrArg (fun x : ℕ => (![x] : Fin 1 → ℕ)) (word_behind ⟨n, hn⟩ h4)
theorem off23_eq (a b : BitVec 32) : k0_off23 i a b = ![n % 4, (Scalar.muli a 8#32).toNat, (Scalar.muli b 128#32).toNat] := by
  simp only [k0_off23, hi]
  exact congrArg (fun x : ℕ => (![x, (Scalar.muli a 8#32).toNat, (Scalar.muli b 128#32).toNat] : Fin 3 → ℕ)) (word_rem4 ⟨n, hn⟩)
theorem off24_eq : k0_off24 i = ![n % 6, 0, 0] := by
  simp only [k0_off24, hi]; exact congrArg (fun x : ℕ => (![x, 0, 0] : Fin 3 → ℕ)) (word_rem6 ⟨n, hn⟩)
theorem off25_eq (a b : BitVec 32) : k0_off25 i a b = ![n % 4, (Scalar.muli a 8#32).toNat, (Scalar.muli b 128#32).toNat] := by
  simp only [k0_off25, hi]
  exact congrArg (fun x : ℕ => (![x, (Scalar.muli a 8#32).toNat, (Scalar.muli b 128#32).toNat] : Fin 3 → ℕ)) (word_rem4 ⟨n, hn⟩)
theorem off26_eq : k0_off26 i = ![n % 4] := off14_eq i n hi hn
theorem off27_eq : k0_off27 i = ![n, 0, 0] := by
  simp only [k0_off27, hi]; exact congrArg (fun x : ℕ => (![x, 0, 0] : Fin 3 → ℕ)) (word_n ⟨n, hn⟩)
theorem off28_eq : k0_off28 i = ![n % 4, 0, 0] := off16_eq i n hi hn
omit hn in
theorem off29_eq (h99 : n = 99) (j : Fin 4) : k0_off29 i (BitVec.ofNat 32 j.val) = ![(99 - j.val) % 4] := by
  subst h99; simp only [k0_off29, hi]; exact congrArg (fun x : ℕ => (![x] : Fin 1 → ℕ)) (word_last4 j)
omit hn in
theorem off30_eq (h99 : n = 99) (j : Fin 4) : k0_off30 i (BitVec.ofNat 32 j.val) = ![99 - j.val, 0, 0] := by
  subst h99; simp only [k0_off30, hi]; exact congrArg (fun x : ℕ => (![x, 0, 0] : Fin 3 → ℕ)) (word_last j)
omit hn in
theorem off31_eq (h99 : n = 99) (j : Fin 4) : k0_off31 i (BitVec.ofNat 32 j.val) = ![(99 - j.val) % 4, 0, 0] := by
  subst h99; simp only [k0_off31, hi]; exact congrArg (fun x : ℕ => (![x, 0, 0] : Fin 3 → ℕ)) (word_last4 j)

end Cert.Proof.CropIdeal

end
-- ==== Proof.HeldIdeal.lean ====
/-
  What the crop kernel's ring holds: the windows and slots by name, the contents the kernel gives them, and the rules
  of its transfers and accesses at those names.
-/
module

public import proofs.«01_k».proof.Proof.OffsetsIdeal
public import proofs.«01_k».proof.Proof.Turns
public import Idealize.ShloMosaic.Lib.Pipeline.FrameSuffixV
public import Idealize.ShloMosaic.Lib.ValueIdxCore
public import Idealize.ShloMosaic.Lib.Tactic

@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (UD)

variable {F : FTy → Type} [FloatOps F]

local notation "𝕄" => MT nD τ sig Unit (Elt F) ℕ (UD sig nD τ) ℕ

/-! ## Buffers -/

abbrev hsM : Memref sig .tc .smem S100 .i32 := Memref.whole main_v10
abbrev wsM : Memref sig .tc .smem S100 .i32 := Memref.whole main_v13
abbrev dataM : Memref sig .tc .hbm S100x512x512 .f32 := Memref.whole main_v0
abbrev outM : Memref sig .tc .hbm S100x512x512 .f32 := Memref.whole main_v14
abbrev ibufM : Memref sig .tc .vmem S6x256x384 .f32 := Memref.whole cc0_scratch0
abbrev obufM : Memref sig .tc .vmem S4x512x512 .f32 := Memref.whole cc0_scratch1

/-! ## The tables, and the window they choose for image `n` -/

/-- Image `n`'s word in a table (of the last image, past the end). -/
def word (H : S100.Idx → Elt F .i32) (n : ℕ) : Elt F .i32 := H (ix1 ⟨min n 99, by omega⟩)

/-- The tables' words choose windows inside an image: at most 32 eights of rows down, at most one 128 of columns right. -/
def Fit (H1 H2 : S100.Idx → Elt F .i32) : Prop :=
  ∀ n < 100, BitVec.toNat (word H1 n) ≤ 32 ∧ BitVec.toNat (word H2 n) ≤ 1

variable (H1 H2 : S100.Idx → Elt F .i32)

/-- The first row of image `n`'s window, -/
def row (n : ℕ) : ℕ := min (BitVec.toNat (word H1 n) * 8) 256
/-- and its first column. -/
def col (n : ℕ) : ℕ := min (BitVec.toNat (word H2 n) * 128) 128

variable {H1 H2} in
theorem row_word (hF : Fit H1 H2) {n : ℕ} (hn : n < 100) : (Scalar.muli (word H1 n) 8#32).toNat = row H1 n := by
  have h := (hF n hn).1
  unfold row; generalize word H1 n = v at *
  have e : (Scalar.muli v 8#32).toNat = v.toNat * 8 % 2 ^ 32 := by
    simp only [Scalar.muli, IntOp.muli, BitVec.toNat_mul, BitVec.toNat_ofNat]
  rw [e, Nat.mod_eq_of_lt (by omega), Nat.min_eq_left (by omega)]
variable {H1 H2} in
theorem col_word (hF : Fit H1 H2) {n : ℕ} (hn : n < 100) : (Scalar.muli (word H2 n) 128#32).toNat = col H2 n := by
  have h := (hF n hn).2
  unfold col; generalize word H2 n = v at *
  have e : (Scalar.muli v 128#32).toNat = v.toNat * 128 % 2 ^ 32 := by
    simp only [Scalar.muli, IntOp.muli, BitVec.toNat_mul, BitVec.toNat_ofNat]
  rw [e, Nat.mod_eq_of_lt (by omega), Nat.min_eq_left (by omega)]

theorem row_le (n : ℕ) : row H1 n ≤ 256 := Nat.min_le_right _ _
theorem col_le (n : ℕ) : col H2 n ≤ 128 := Nat.min_le_right _ _

/-! ## Rectangles -/

/-- Image `n`'s window of the input, -/
abbrev winOff (n : ℕ) : Fin 3 → ℕ := ![min n 99, row H1 n, col H2 n]
theorem winOff_inb (n : ℕ) : ∀ a, winOff H1 H2 n a + S1x256x384.size a ≤ S100x512x512.size a := by
  have := row_le H1 n; have := col_le H2 n
  intro a; fin_cases a
  · show min n 99 + 1 ≤ 100; omega
  · show row H1 n + 256 ≤ 512; omega
  · show col H2 n + 384 ≤ 512; omega
/-- the input buffer's slot for it, -/
abbrev islotOff (n : ℕ) : Fin 3 → ℕ := ![n % 6, 0, 0]
theorem islotOff_inb (n : ℕ) : ∀ a, islotOff n a + S1x256x384.size a ≤ S6x256x384.size a := by
  intro a; fin_cases a
  · show n % 6 + 1 ≤ 6; omega
  · show 0 + 256 ≤ 256; omega
  · show 0 + 384 ≤ 384; omega
/-- the output buffer's, -/
abbrev oslotOff (n : ℕ) : Fin 3 → ℕ := ![n % 4, 0, 0]
theorem oslotOff_inb (n : ℕ) : ∀ a, oslotOff n a + S1x512x512.size a ≤ S4x512x512.size a := by
  intro a; fin_cases a
  · show n % 4 + 1 ≤ 4; omega
  · show 0 + 512 ≤ 512; omega
  · show 0 + 512 ≤ 512; omega
/-- the window inside that slot, -/
abbrev owinOff (n k : ℕ) : Fin 3 → ℕ := ![n % 4, row H1 k, col H2 k]
theorem owinOff_inb (n k : ℕ) : ∀ a, owinOff H1 H2 n k a + S1x256x384.size a ≤ S4x512x512.size a := by
  have := row_le H1 k; have := col_le H2 k
  intro a; fin_cases a
  · show n % 4 + 1 ≤ 4; omega
  · show row H1 k + 256 ≤ 512; omega
  · show col H2 k + 384 ≤ 512; omega
/-- and the image's place in the output. -/
abbrev imgOff (n : ℕ) : Fin 3 → ℕ := ![min n 99, 0, 0]
theorem imgOff_inb (n : ℕ) : ∀ a, imgOff n a + S1x512x512.size a ≤ S100x512x512.size a := by
  intro a; fin_cases a
  · show min n 99 + 1 ≤ 100; omega
  · show 0 + 512 ≤ 512; omega
  · show 0 + 512 ≤ 512; omega
theorem icell_inb (n : ℕ) : ∀ a, (![n % 6] : Fin 1 → ℕ) a + S1.size a ≤ S6.size a := by
  intro a; fin_cases a; show n % 6 + 1 ≤ 6; omega
theorem ocell_inb (n : ℕ) : ∀ a, (![n % 4] : Fin 1 → ℕ) a + S1.size a ≤ S4.size a := by
  intro a; fin_cases a; show n % 4 + 1 ≤ 4; omega

abbrev winRect (n : ℕ) : Rect S100x512x512 := Rect.unit (winOff H1 H2 n) S1x256x384.size (winOff_inb H1 H2 n)
abbrev islotRect (n : ℕ) : Rect S6x256x384 := Rect.unit (islotOff n) S1x256x384.size (islotOff_inb n)
abbrev oslotRect (n : ℕ) : Rect S4x512x512 := Rect.unit (oslotOff n) S1x512x512.size (oslotOff_inb n)
abbrev owinRect (n k : ℕ) : Rect S4x512x512 := Rect.unit (owinOff H1 H2 n k) S1x256x384.size (owinOff_inb H1 H2 n k)
abbrev imgRect (n : ℕ) : Rect S100x512x512 := Rect.unit (imgOff n) S1x512x512.size (imgOff_inb n)

/-- The memrefs the kernel's transfers name. -/
abbrev winMem (n : ℕ) : Memref sig .tc .hbm S256x384 .f32 := (dataM.slice (winRect H1 H2 n) (fun _ => rfl)).squeeze S256x384 squeezes_S1x256x384_S256x384
abbrev islotMem (n : ℕ) : Memref sig .tc .vmem S256x384 .f32 := (ibufM.slice (islotRect n) (fun _ => rfl)).squeeze S256x384 squeezes_S1x256x384_S256x384
abbrev oslotMem (n : ℕ) : Memref sig .tc .vmem S512x512 .f32 := (obufM.slice (oslotRect n) (fun _ => rfl)).squeeze S512x512 squeezes_S1x512x512_S512x512
abbrev imgMem (n : ℕ) : Memref sig .tc .hbm S512x512 .f32 := (outM.slice (imgRect n) (fun _ => rfl)).squeeze S512x512 squeezes_S1x512x512_S512x512

/-- The cell image `n`'s input transfer completes on, and its output transfer's. -/
abbrev icell (n : ℕ) : DmaSem sig := ((cc0_scratch2.slice (Rect.unit (s := S6) ![n % 6] S1.size (icell_inb n))).squeeze S_ squeezes_S1_S_).sem
abbrev ocell (n : ℕ) : DmaSem sig := ((cc0_scratch3.slice (Rect.unit (s := S4) ![n % 4] S1.size (ocell_inb n))).squeeze S_ squeezes_S1_S_).sem

/-! ## Contents -/

variable (D : S100x512x512.Idx → Elt F .f32) (X : S4x100.Idx → Elt F .f32)

/-- Row `k` of the boxes' table at image `n`. -/
def roi (k : Fin 4) (n : ℕ) : Elt F .f32 := X (ix2 k ⟨min n 99, by omega⟩)

/-- Image `n`'s window of the input, as a block. -/
def block (n : ℕ) : Vec F S1x256x384 .f32 := fun x =>
  D (ix3 ⟨min n 99, by omega⟩ ⟨row H1 n + (x 1).val, by have := row_le H1 n; have : (x 1).val < 256 := (x 1).isLt; omega⟩
    ⟨col H2 n + (x 2).val, by have := col_le H2 n; have : (x 2).val < 384 := (x 2).isLt; omega⟩)

/-- The input buffer with that block in every slot. -/
def ibufAt (n : ℕ) : S6x256x384.Idx → Elt F .f32 := fun j =>
  block H1 H2 D n (ix3 0 ⟨(j 1).val, (j 1).isLt⟩ ⟨(j 2).val, (j 2).isLt⟩)

/-- The block masked to the box, as the kernel computes it. -/
def masked (n : ℕ) : Vec F S1x256x384 .f32 :=
  k0_pay3 (Scalar.muli (word H1 n) 8#32) (Scalar.muli (word H2 n) 128#32) (roi X 0 n) (roi X 1 n) (roi X 2 n) (roi X 3 n) (block H1 H2 D n)

/-- The zero the kernel fills with. -/
def zero : Elt F .f32 := Scalar.ofBits .f32 0x00000000#32

/-- The finished image `n`: the masked block in its window, zero elsewhere. -/
def image (n : ℕ) (h w : Fin 512) : Elt F .f32 :=
  if hh : (row H1 n ≤ h.val ∧ h.val < row H1 n + 256) ∧ (col H2 n ≤ w.val ∧ w.val < col H2 n + 384) then
    masked H1 H2 D X n (ix3 0 ⟨h.val - row H1 n, by omega⟩ ⟨w.val - col H2 n, by omega⟩)
  else zero

/-- The output buffer with image `n` in every slot, -/
def obufAt (n : ℕ) : S4x512x512.Idx → Elt F .f32 := fun j => image H1 H2 D X n (j 1) (j 2)
/-- with zeros, -/
def obufZero : S4x512x512.Idx → Elt F .f32 := fun _ => zero
/-- and the output with every image finished. -/
def result : S100x512x512.Idx → Elt F .f32 := fun j => image H1 H2 D X (j 0).val (j 1) (j 2)

/-! ## What transfers and stores leave -/

theorem mem_rect_emb {s : Shape} (r : Rect s) (x : r.shape.Idx) : r.emb x ∈ r.set := by
  rw [← Rect.map_emb_univ]; exact Finset.mem_map_of_mem _ (Finset.mem_univ x)

/-- What image `n`'s window leaves in its slot: the block. -/
theorem fetched (n : ℕ) (f : S6x256x384.Idx → Elt F .f32) : ∀ y ∈ (islotRect n).set,
    (islotMem n).view.write (Elt F) f (ReadAs.same.apply ((winMem H1 H2 n).view.read (Elt F) D)) Finset.univ y = ibufAt H1 H2 D n y := by
  intro y hy
  have hy' : y ∈ (islotMem n).view.set := by
    rw [show (islotMem n).view.set = (islotRect n).set from (View.set_reshape _ _).trans (View.set_slice_whole _ _)]; exact hy
  obtain ⟨x, -, rfl⟩ := Finset.mem_map.1 hy'
  rw [View.write_emb_of_mem _ _ (Finset.mem_univ x)]
  show D ((winRect H1 H2 n).emb _) = ibufAt H1 H2 D n ((islotRect n).emb _)
  generalize (Shape.reshapeEquiv _) x = z
  show D _ = D _
  refine congrArg D (funext fun a => Fin.ext ?_)
  have h0 : (z 0).val < 1 := (z 0).isLt
  match a with
  | ⟨0, _⟩ => show min n 99 + 1 * (z 0).val = min n 99; omega
  | ⟨1, _⟩ => show row H1 n + 1 * (z 1).val = row H1 n + (0 + 1 * (z 1).val); omega
  | ⟨2, _⟩ => show col H2 n + 1 * (z 2).val = col H2 n + (0 + 1 * (z 2).val); omega

/-- What the output slot leaves in image `n`: the finished image. -/
theorem delivered (n : ℕ) (hn : n < 100) (f : S100x512x512.Idx → Elt F .f32) : ∀ y ∈ (imgRect n).set,
    (imgMem n).view.write (Elt F) f (ReadAs.same.apply ((oslotMem n).view.read (Elt F) (obufAt H1 H2 D X n))) Finset.univ y = result H1 H2 D X y := by
  intro y hy
  have hy' : y ∈ (imgMem n).view.set := by
    rw [show (imgMem n).view.set = (imgRect n).set from (View.set_reshape _ _).trans (View.set_slice_whole _ _)]; exact hy
  obtain ⟨x, -, rfl⟩ := Finset.mem_map.1 hy'
  rw [View.write_emb_of_mem _ _ (Finset.mem_univ x)]
  show obufAt H1 H2 D X n ((oslotRect n).emb _) = result H1 H2 D X ((imgRect n).emb _)
  generalize (Shape.reshapeEquiv _) x = z
  have h0 : (z 0).val < 1 := (z 0).isLt
  unfold obufAt result
  have e0 : (((imgRect n).emb z) 0).val = n := by show min n 99 + 1 * (z 0).val = n; omega
  rw [e0]
  rfl

/-- What a load of image `n`'s slot reads: the block. -/
theorem loaded (n : ℕ) : (ibufM.access (islotRect n)).read (Elt F) (ibufAt H1 H2 D n) = block H1 H2 D n := by
  funext x
  show block H1 H2 D n _ = _
  refine congrArg _ (funext fun a => Fin.ext ?_)
  have h0 : (x 0).val < 1 := (x 0).isLt
  match a with
  | ⟨0, _⟩ => show 0 = (x 0).val; omega
  | ⟨1, _⟩ => show 0 + 1 * (x 1).val = (x 1).val; omega
  | ⟨2, _⟩ => show 0 + 1 * (x 2).val = (x 2).val; omega

theorem shapeCast_const {s t : Shape} {α : Type} (a : α) (h : s.ShapeCasts t) : shapeCast t (fun _ : s.Idx => a) h = fun _ => a := rfl

/-- Filling a slot with zeros leaves zeros. -/
theorem filled (n : ℕ) (f : S4x512x512.Idx → Elt F .f32) : ∀ y ∈ (oslotRect n).set,
    (obufM.access (oslotRect n)).write (Elt F) f (k0_pay1 (F := F)) Finset.univ y = obufZero (F := F) y := by
  intro y hy
  have hy' : y ∈ (obufM.access (oslotRect n)).set := by rw [View.set_slice_whole]; exact hy
  obtain ⟨x, -, rfl⟩ := Finset.mem_map.1 hy'
  rw [View.write_emb_of_mem _ _ (Finset.mem_univ x)]
  rfl

theorem mem_owin (n k : ℕ) (y : S4x512x512.Idx) (hy : y ∈ (oslotRect n).set) :
    y ∈ (owinRect H1 H2 n k).set ↔ (row H1 k ≤ (y 1).val ∧ (y 1).val < row H1 k + 256) ∧ (col H2 k ≤ (y 2).val ∧ (y 2).val < col H2 k + 384) := by
  rw [Rect.mem_set_unit] at hy ⊢
  have h0 : n % 4 ≤ (y 0).val ∧ (y 0).val < n % 4 + 1 := hy 0
  constructor
  · intro h; exact ⟨h 1, h 2⟩
  · rintro ⟨h1, h2⟩ a; match a with
    | ⟨0, _⟩ => exact h0
    | ⟨1, _⟩ => exact h1
    | ⟨2, _⟩ => exact h2

/-- Zeroing an image's window leaves zeros. -/
theorem cleared (n k : ℕ) (f : S4x512x512.Idx → Elt F .f32) (hf : ∀ y ∈ (oslotRect n).set, f y = obufAt H1 H2 D X k y) : ∀ y ∈ (oslotRect n).set,
    (obufM.access (owinRect H1 H2 n k)).write (Elt F) f (k0_pay2 (F := F)) Finset.univ y = obufZero (F := F) y := by
  intro y hy
  by_cases hw : y ∈ (owinRect H1 H2 n k).set
  · have hy' : y ∈ (obufM.access (owinRect H1 H2 n k)).set := by rw [View.set_slice_whole]; exact hw
    obtain ⟨x, -, rfl⟩ := Finset.mem_map.1 hy'
    rw [View.write_emb_of_mem _ _ (Finset.mem_univ x)]
    rfl
  · refine (View.write_of_not_mem (v := obufM.access (owinRect H1 H2 n k)) (Val := Elt F) f _ _ (by rw [View.setOn_univ, View.set_slice_whole]; exact hw)).trans ((hf y hy).trans ?_)
    rw [mem_owin H1 H2 n k y hy] at hw
    unfold obufAt image obufZero; rw [dif_neg hw]

/-- Storing the masked block over zeros leaves the finished image. -/
theorem finished (n : ℕ) (f : S4x512x512.Idx → Elt F .f32) (hf : ∀ y ∈ (oslotRect n).set, f y = obufZero (F := F) y) : ∀ y ∈ (oslotRect n).set,
    (obufM.access (owinRect H1 H2 n n)).write (Elt F) f (masked H1 H2 D X n) Finset.univ y = obufAt H1 H2 D X n y := by
  intro y hy
  by_cases hw : y ∈ (owinRect H1 H2 n n).set
  · have hy' : y ∈ (obufM.access (owinRect H1 H2 n n)).set := by rw [View.set_slice_whole]; exact hw
    have hc := (mem_owin H1 H2 n n y hy).1 hw
    obtain ⟨x, -, rfl⟩ := Finset.mem_map.1 hy'
    rw [View.write_emb_of_mem _ _ (Finset.mem_univ x)]
    unfold obufAt image; rw [dif_pos hc]
    show masked H1 H2 D X n x = masked H1 H2 D X n _
    refine congrArg _ (funext fun a => Fin.ext ?_)
    have h0 : (x 0).val < 1 := (x 0).isLt
    match a with
    | ⟨0, _⟩ => show (x 0).val = 0; omega
    | ⟨1, _⟩ => show (x 1).val = row H1 n + 1 * (x 1).val - row H1 n; omega
    | ⟨2, _⟩ => show (x 2).val = col H2 n + 1 * (x 2).val - col H2 n; omega
  · refine (View.write_of_not_mem (v := obufM.access (owinRect H1 H2 n n)) (Val := Elt F) f _ _ (by rw [View.setOn_univ, View.set_slice_whole]; exact hw)).trans ((hf y hy).trans ?_)
    rw [mem_owin H1 H2 n n y hy] at hw
    unfold obufAt image obufZero; rw [dif_neg hw]

end Cert.Proof.CropIdeal

end
-- ==== Proof.StepsIdeal.lean ====
/-
  The kernel's steps, one by one: a table's word, a box's word, an input window's transfer started and awaited, an
  output slot filled, cleared and pasted into, an image's transfer started and awaited. Each consumes what it needs of
  the ring and hands back what it leaves, at any spelling of its offsets that equals the named one.
-/
module

public import proofs.«01_k».proof.Proof.HeldIdeal
public import Idealize.ShloMosaic.Lib.Transfers

@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (UD)

variable {F : FTy → Type} [FloatOps F]

local notation "𝕄" => MT nD τ sig Unit (Elt F) ℕ (UD sig nD τ) ℕ

abbrev 𝒱₀ : Variants := Variants.none

/-! ## What is held -/

variable (c : Dev nD) (H1 H2 : S100.Idx → Elt F .i32) (D : S100x512x512.Idx → Elt F .f32) (X : S4x100.Idx → Elt F .f32)

/-- What an input transfer and an output transfer credit. -/
abbrev inCredit : ℕ := (islotMem 0).view.dmaCredit
abbrev outCredit : ℕ := (imgMem 0).view.dmaCredit

/-- Parts of the five buffers, held. -/
abbrev heldD (S : Finset S100x512x512.Idx) (q : PosShare TreeShare) (f : S100x512x512.Idx → Elt F .f32) : sProp 𝕄 :=
  ((c : Thread nD τ).loc main_v0) ↦[S]{q} f
abbrev heldO (S : Finset S100x512x512.Idx) (f : S100x512x512.Idx → Elt F .f32) : sProp 𝕄 :=
  ((c : Thread nD τ).loc main_v14) ↦[S]{fullShare} f
abbrev heldI (S : Finset S6x256x384.Idx) (f : S6x256x384.Idx → Elt F .f32) : sProp 𝕄 :=
  ((c : Thread nD τ).loc cc0_scratch0) ↦[S]{fullShare} f
abbrev heldS (S : Finset S4x512x512.Idx) (f : S4x512x512.Idx → Elt F .f32) : sProp 𝕄 :=
  ((c : Thread nD τ).loc cc0_scratch1) ↦[S]{fullShare} f
abbrev cellZ (s : DmaSem sig) : sProp 𝕄 := semVal ((c : Thread nD τ), SemLoc.dma s) 0

/-- Slot `s`'s share of the input. -/
abbrev tok (s : ℕ) : PosShare TreeShare := Transfers.shareTokN fullShare s

/-- Input slot `s` idle: its cell at zero, its part of the buffer, its share of the input. -/
def iFree (s : ℕ) : sProp 𝕄 :=
  iprop(cellZ (F := F) c (icell s) ∗ (∃ f, heldI (F := F) c (islotRect s).set f) ∗ heldD c Finset.univ (tok s) D)
/-- Image `n`'s input transfer under way: at its end the slot holds the block. -/
def iFly (n : ℕ) : sProp 𝕄 :=
  iprop(Transfers.Flight (countersEmb (U := UD sig nD τ)) (c : Thread nD τ) (.dma (icell n)) () inCredit
      iprop(heldI c (islotRect n).set (ibufAt H1 H2 D n) ∗ heldD c (winRect H1 H2 n).set (tok (n % 6)) D)
    ∗ heldD c (Finset.univ \ (winRect H1 H2 n).set) (tok (n % 6)) D)
/-- Output slot `s` idle. -/
def oFree (s : ℕ) : sProp 𝕄 := iprop(cellZ (F := F) c (ocell s) ∗ ∃ f, heldS (F := F) c (oslotRect s).set f)
/-- Image `n`'s output transfer under way: at its end the output holds the finished image. -/
def oFly (n : ℕ) : sProp 𝕄 :=
  Transfers.Flight (countersEmb (U := UD sig nD τ)) (c : Thread nD τ) (.dma (ocell n)) () outCredit
      iprop(heldO c (imgRect n).set (result H1 H2 D X) ∗ heldS c (oslotRect n).set (obufAt H1 H2 D X n))

theorem icell_at {o o' : Fin 1 → ℕ} (e : o = o') (i i') :
    ((cc0_scratch2.slice (Rect.unit (s := S6) o S1.size i)).squeeze S_ squeezes_S1_S_).sem = ((cc0_scratch2.slice (Rect.unit (s := S6) o' S1.size i')).squeeze S_ squeezes_S1_S_).sem := by
  subst e; rfl
theorem ocell_at {o o' : Fin 1 → ℕ} (e : o = o') (i i') :
    ((cc0_scratch3.slice (Rect.unit (s := S4) o S1.size i)).squeeze S_ squeezes_S1_S_).sem = ((cc0_scratch3.slice (Rect.unit (s := S4) o' S1.size i')).squeeze S_ squeezes_S1_S_).sem := by
  subst e; rfl
theorem icell_congr {m n : ℕ} (h : m % 6 = n % 6) : icell m = icell n := icell_at (by rw [h]) _ _
theorem ocell_congr {m n : ℕ} (h : m % 4 = n % 4) : ocell m = ocell n := ocell_at (by rw [h]) _ _
theorem islot_congr {m n : ℕ} (h : m % 6 = n % 6) : islotRect m = islotRect n := by unfold islotRect; simp only [islotOff, h]
theorem oslot_congr {m n : ℕ} (h : m % 4 = n % 4) : oslotRect m = oslotRect n := by unfold oslotRect; simp only [oslotOff, h]

theorem winMem_set (n : ℕ) : (winMem H1 H2 n).view.set = (winRect H1 H2 n).set := (View.set_reshape _ _).trans (View.set_slice_whole _ _)
theorem islotMem_set (n : ℕ) : (islotMem n).view.set = (islotRect n).set := (View.set_reshape _ _).trans (View.set_slice_whole _ _)
theorem oslotMem_set (n : ℕ) : (oslotMem n).view.set = (oslotRect n).set := (View.set_reshape _ _).trans (View.set_slice_whole _ _)
theorem imgMem_set (n : ℕ) : (imgMem n).view.set = (imgRect n).set := (View.set_reshape _ _).trans (View.set_slice_whole _ _)

/-! ## The steps -/

variable {c H1 H2 D X}
variable {α : Type} {n : ℕ}

/-- A word's load, continued. -/
theorem smemLoad_bind {e : EltTy} {s : Shape} (m : Memref sig .tc .smem s e) (r : Rect s) (h1 : r.shape.numel = 1) (hp : e.packing = 1)
    (k : Elt F e → Prog (TpuEff nD τ sig (Elt F) Λ₀ .tc) α) :
    (smemLoad m r h1 hp >>= k) = smemLoadElt m r (View.loads_smem_one hp h1) (Shape.Idx.first (h1.symm ▸ Nat.one_pos)) k := by
  unfold smemLoad smemLoadElt
  rw [Prog.bind_op]
  rfl

/-- A word of the first table. -/
theorem wp_word1 {off : Fin 1 → ℕ} {inb} {h1 h2} {q : PosShare TreeShare} {Q : α → sProp 𝕄} {k : Elt F .i32 → Prog (TpuEff nD τ sig (Elt F) Λ₀ .tc) α}
    (hn : n < 100) (e : off = ![n]) :
    (((c : Thread nD τ).loc main_v10) ↦[Finset.univ]{q} H1 : sProp 𝕄)
      ⊢ iprop(((((c : Thread nD τ).loc main_v10) ↦[Finset.univ]{q} H1) -∗ wp frame (wpE (defs₀ (F := F)) 𝒱₀ (c : Thread nD τ) none) Set.univ (k (word H1 n)) Q)
        -∗ wp frame (wpE (defs₀ (F := F)) 𝒱₀ (c : Thread nD τ) none) Set.univ (smemLoad hsM (Rect.unit (s := S100) off S1.size inb) h1 h2 >>= k) Q) := by
  subst e
  have e : word H1 n = (hsM.access (Rect.unit (s := S100) ![n] S1.size inb)).read (Elt F) H1 (Shape.Idx.first (h1.symm ▸ Nat.one_pos)) := by
    generalize Shape.Idx.first (h1.symm ▸ Nat.one_pos) = x
    have h0 : (x 0).val < 1 := (x 0).isLt
    show H1 _ = H1 _
    refine congrArg H1 (funext fun a => Fin.ext ?_)
    match a with
    | ⟨0, _⟩ => show min n 99 = n + 1 * (x 0).val; omega
  rw [e, smemLoad_bind]
  iintro H Hk
  iapply (wp_smemLoadElt 𝒱₀ (c : Thread nD τ) none Set.univ (m := hsM) (r := Rect.unit (s := S100) ![n] S1.size inb) (S := Finset.univ) (q := q) (f := H1) (Finset.subset_univ _)) $$ H
  iexact Hk

/-- A word of the second table. -/
theorem wp_word2 {off : Fin 1 → ℕ} {inb} {h1 h2} {q : PosShare TreeShare} {Q : α → sProp 𝕄} {k : Elt F .i32 → Prog (TpuEff nD τ sig (Elt F) Λ₀ .tc) α}
    (hn : n < 100) (e : off = ![n]) :
    (((c : Thread nD τ).loc main_v13) ↦[Finset.univ]{q} H2 : sProp 𝕄)
      ⊢ iprop(((((c : Thread nD τ).loc main_v13) ↦[Finset.univ]{q} H2) -∗ wp frame (wpE (defs₀ (F := F)) 𝒱₀ (c : Thread nD τ) none) Set.univ (k (word H2 n)) Q)
        -∗ wp frame (wpE (defs₀ (F := F)) 𝒱₀ (c : Thread nD τ) none) Set.univ (smemLoad wsM (Rect.unit (s := S100) off S1.size inb) h1 h2 >>= k) Q) := by
  subst e
  have e : word H2 n = (wsM.access (Rect.unit (s := S100) ![n] S1.size inb)).read (Elt F) H2 (Shape.Idx.first (h1.symm ▸ Nat.one_pos)) := by
    generalize Shape.Idx.first (h1.symm ▸ Nat.one_pos) = x
    have h0 : (x 0).val < 1 := (x 0).isLt
    show H2 _ = H2 _
    refine congrArg H2 (funext fun a => Fin.ext ?_)
    match a with
    | ⟨0, _⟩ => show min n 99 = n + 1 * (x 0).val; omega
  rw [e, smemLoad_bind]
  iintro H Hk
  iapply (wp_smemLoadElt 𝒱₀ (c : Thread nD τ) none Set.univ (m := wsM) (r := Rect.unit (s := S100) ![n] S1.size inb) (S := Finset.univ) (q := q) (f := H2) (Finset.subset_univ _)) $$ H
  iexact Hk

/-- A word of the boxes' table. -/
theorem wp_roi (r : Fin 4) {off : Fin 2 → ℕ} {inb} {h1 h2} {Q : α → sProp 𝕄} {k : Elt F .f32 → Prog (TpuEff nD τ sig (Elt F) Λ₀ .tc) α}
    (hn : n < 100) (e : off = ![r.val, n]) :
    (((c : Thread nD τ).loc cc0_stg0_0) ↦[Finset.univ]{fullShare} X : sProp 𝕄)
      ⊢ iprop(((((c : Thread nD τ).loc cc0_stg0_0) ↦[Finset.univ]{fullShare} X) -∗ wp frame (wpE (defs₀ (F := F)) 𝒱₀ (c : Thread nD τ) none) Set.univ (k (roi X r n)) Q)
        -∗ wp frame (wpE (defs₀ (F := F)) 𝒱₀ (c : Thread nD τ) none) Set.univ (smemLoad (Memref.whole cc0_stg0_0 : Memref sig .tc .smem S4x100 .f32) (Rect.unit (s := S4x100) off S1x1.size inb) h1 h2 >>= k) Q) := by
  subst e
  have e : roi X r n = ((Memref.whole cc0_stg0_0 : Memref sig .tc .smem S4x100 .f32).access (Rect.unit (s := S4x100) ![r.val, n] S1x1.size inb)).read (Elt F) X (Shape.Idx.first (h1.symm ▸ Nat.one_pos)) := by
    generalize Shape.Idx.first (h1.symm ▸ Nat.one_pos) = x
    have h0 : (x 0).val < 1 := (x 0).isLt
    have h1 : (x 1).val < 1 := (x 1).isLt
    show X _ = X _
    refine congrArg X (funext fun a => Fin.ext ?_)
    match a with
    | ⟨0, _⟩ => show r.val = r.val + 1 * (x 0).val; omega
    | ⟨1, _⟩ => show min n 99 = n + 1 * (x 1).val; omega
  rw [e, smemLoad_bind]
  iintro H Hk
  iapply (wp_smemLoadElt 𝒱₀ (c : Thread nD τ) none Set.univ (m := (Memref.whole cc0_stg0_0 : Memref sig .tc .smem S4x100 .f32)) (r := Rect.unit (s := S4x100) ![r.val, n] S1x1.size inb) (S := Finset.univ) (q := fullShare) (f := X) (Finset.subset_univ _)) $$ H
  iexact Hk

/-- An input transfer started: the slot's idle resources become the transfer under way. -/
theorem wp_start {oS oD : Fin 3 → ℕ} {oC : Fin 1 → ℕ} {iS iD iC hs hd h1 h2 h3} {Q : α → sProp 𝕄} {k : PUnit → Prog (TpuEff nD τ sig (Elt F) Λ₀ .tc) α}
    (eS : oS = winOff H1 H2 n) (eD : oD = islotOff n) (eC : oC = ![n % 6]) :
    iFree c D (n % 6)
      ⊢ iprop((iFly c H1 H2 D n -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((dataM.slice (Rect.unit oS S1x256x384.size iS) hs).squeeze S256x384 squeezes_S1x256x384_S256x384)
            (.here ((ibufM.slice (Rect.unit oD S1x256x384.size iD) hd).squeeze S256x384 squeezes_S1x256x384_S256x384))
            (.dma ((cc0_scratch2.slice (Rect.unit (s := S6) oC S1.size iC)).squeeze S_ squeezes_S1_S_).sem) h1 h2 h3) k) Q) := by
  subst eS; subst eD; subst eC
  unfold iFree iFly
  rw [icell_congr (Nat.mod_mod n 6), islot_congr (Nat.mod_mod n 6)]
  iintro ⟨Hc, ⟨%f, Hi⟩, Hd⟩ Hk
  ihave Hd := (pointsTo_split_subset (Finset.subset_univ (winRect H1 H2 n).set)).1 $$ Hd
  icases Hd with ⟨Hd, Hr⟩
  iapply (Transfers.wp_dmaLocal (countersEmb (U := UD sig nD τ)) 𝒱₀ (c : Thread nD τ) none (src := winMem H1 H2 n) (dst := islotMem n) (sm := .dma (icell n)) () inCredit rfl
    (View.dmaCredit_pos _ (by decide)) (islotMem_set n).le (q := tok (n % 6)) (fs := D) (fd := f)) $$ [Hd Hi Hc]
  · rw [winMem_set]
    isplitl [Hd]; · iexact Hd
    isplitl [Hi]; · iexact Hi
    iexact Hc
  iintro Hf
  iapply Hk
  isplitl [Hf]
  · rw [winMem_set, pointsTo_congr fun y hy => fetched H1 H2 D n f y hy]; iexact Hf
  iexact Hr

/-- An input transfer awaited: the slot holds the block, its share of the input and its cell are back. -/
theorem wp_arrive {oS oD : Fin 3 → ℕ} {oC : Fin 1 → ℕ} {iS iD iC hs hd h1 h2} {Q : α → sProp 𝕄} {k : PUnit → Prog (TpuEff nD τ sig (Elt F) Λ₀ .tc) α} {W : Waits sig Unit}
    (eC : oC = ![n % 6]) :
    iprop(iFly c H1 H2 D n ∗ owes (c : Thread nD τ) 0 W)
      ⊢ iprop(((∃ W', owes (c : Thread nD τ) 0 W') ∗ heldI c (islotRect n).set (ibufAt H1 H2 D n) ∗ heldD c Finset.univ (tok (n % 6)) D ∗ cellZ (F := F) c (icell n)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 ((cc0_scratch2.slice (Rect.unit (s := S6) oC S1.size iC)).squeeze S_ squeezes_S1_S_).sem
            ((dataM.slice (Rect.unit oS S1x256x384.size iS) hs).squeeze S256x384 squeezes_S1x256x384_S256x384)
            ((ibufM.slice (Rect.unit oD S1x256x384.size iD) hd).squeeze S256x384 squeezes_S1x256x384_S256x384) h1 h2) k) Q) := by
  subst eC
  unfold iFly
  iintro ⟨⟨Hf, Hr⟩, HO⟩ Hk
  iapply (Transfers.wp_waitLocal (countersEmb (U := UD sig nD τ)) 𝒱₀ (c : Thread nD τ) none (sem := icell n)
    (srcw := (dataM.slice (Rect.unit oS S1x256x384.size iS) hs).squeeze S256x384 squeezes_S1x256x384_S256x384)
    (dstw := (ibufM.slice (Rect.unit oD S1x256x384.size iD) hd).squeeze S256x384 squeezes_S1x256x384_S256x384) (hsrc := h1) (hdst := h2) () (N := inCredit) rfl) $$ [Hf HO]
  · isplitl [Hf]; · iexact Hf
    iexact HO
  iintro ⟨⟨Hi, Hd⟩, Hc, HO⟩
  iapply Hk
  isplitl [HO]; · iexists _; iexact HO
  isplitl [Hi]; · iexact Hi
  isplitl [Hd Hr]
  · iapply (pointsTo_split_subset (Finset.subset_univ (winRect H1 H2 n).set)).2
    isplitl [Hd]; · iexact Hd
    iexact Hr
  iexact Hc

/-- An image's transfer started. -/
theorem wp_send {oS oD : Fin 3 → ℕ} {oC : Fin 1 → ℕ} {iS iD iC hs hd h1 h2 h3} {Q : α → sProp 𝕄} {k : PUnit → Prog (TpuEff nD τ sig (Elt F) Λ₀ .tc) α}
    (hn : n < 100) (eS : oS = oslotOff n) (eD : oD = imgOff n) (eC : oC = ![n % 4]) (g : S100x512x512.Idx → Elt F .f32) :
    iprop(cellZ (F := F) c (ocell n) ∗ heldS c (oslotRect n).set (obufAt H1 H2 D X n) ∗ heldO c (imgRect n).set g)
      ⊢ iprop((oFly c H1 H2 D X n -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((obufM.slice (Rect.unit oS S1x512x512.size iS) hs).squeeze S512x512 squeezes_S1x512x512_S512x512)
            (.here ((outM.slice (Rect.unit oD S1x512x512.size iD) hd).squeeze S512x512 squeezes_S1x512x512_S512x512))
            (.dma ((cc0_scratch3.slice (Rect.unit (s := S4) oC S1.size iC)).squeeze S_ squeezes_S1_S_).sem) h1 h2 h3) k) Q) := by
  subst eS; subst eD; subst eC
  unfold oFly
  iintro ⟨Hc, Hs, Ho⟩ Hk
  iapply (Transfers.wp_dmaLocal (countersEmb (U := UD sig nD τ)) 𝒱₀ (c : Thread nD τ) none (src := oslotMem n) (dst := imgMem n) (sm := .dma (ocell n)) () outCredit rfl
    (View.dmaCredit_pos _ (by decide)) (imgMem_set n).le (q := fullShare) (fs := obufAt H1 H2 D X n) (fd := g)) $$ [Hc Hs Ho]
  · rw [oslotMem_set]
    isplitl [Hs]; · iexact Hs
    isplitl [Ho]; · iexact Ho
    iexact Hc
  iintro Hf
  iapply Hk
  rw [oslotMem_set, pointsTo_congr fun y hy => delivered H1 H2 D X n hn g y hy]; iexact Hf

/-- An image's transfer awaited. -/
theorem wp_sent {oS oD : Fin 3 → ℕ} {oC : Fin 1 → ℕ} {iS iD iC hs hd h1 h2} {Q : α → sProp 𝕄} {k : PUnit → Prog (TpuEff nD τ sig (Elt F) Λ₀ .tc) α} {W : Waits sig Unit}
    (eC : oC = ![n % 4]) :
    iprop(oFly c H1 H2 D X n ∗ owes (c : Thread nD τ) 0 W)
      ⊢ iprop(((∃ W', owes (c : Thread nD τ) 0 W') ∗ heldO c (imgRect n).set (result H1 H2 D X) ∗ heldS c (oslotRect n).set (obufAt H1 H2 D X n) ∗ cellZ (F := F) c (ocell n)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 ((cc0_scratch3.slice (Rect.unit (s := S4) oC S1.size iC)).squeeze S_ squeezes_S1_S_).sem
            ((obufM.slice (Rect.unit oS S1x512x512.size iS) hs).squeeze S512x512 squeezes_S1x512x512_S512x512)
            ((outM.slice (Rect.unit oD S1x512x512.size iD) hd).squeeze S512x512 squeezes_S1x512x512_S512x512) h1 h2) k) Q) := by
  subst eC
  unfold oFly
  iintro ⟨Hf, HO⟩ Hk
  iapply (Transfers.wp_waitLocal (countersEmb (U := UD sig nD τ)) 𝒱₀ (c : Thread nD τ) none (sem := ocell n)
    (srcw := (obufM.slice (Rect.unit oS S1x512x512.size iS) hs).squeeze S512x512 squeezes_S1x512x512_S512x512)
    (dstw := (outM.slice (Rect.unit oD S1x512x512.size iD) hd).squeeze S512x512 squeezes_S1x512x512_S512x512) (hsrc := h1) (hdst := h2) () (N := outCredit) rfl) $$ [Hf HO]
  · isplitl [Hf]; · iexact Hf
    iexact HO
  iintro ⟨⟨Ho, Hs⟩, Hc, HO⟩
  iapply Hk
  isplitl [HO]; · iexists _; iexact HO
  isplitl [Ho]; · iexact Ho
  isplitl [Hs]; · iexact Hs
  iexact Hc

/-- The slot's block loaded. -/
theorem wp_block {o : Fin 3 → ℕ} {i h} {Q : α → sProp 𝕄} {k : Vec F S1x256x384 .f32 → Prog (TpuEff nD τ sig (Elt F) Λ₀ .tc) α} (e : o = islotOff n) :
    heldI c (islotRect n).set (ibufAt H1 H2 D n)
      ⊢ iprop((heldI c (islotRect n).set (ibufAt H1 H2 D n) -∗ wp frame (wpE (defs₀ (F := F)) 𝒱₀ (c : Thread nD τ) none) Set.univ (k (block H1 H2 D n)) Q)
        -∗ wp frame (wpE (defs₀ (F := F)) 𝒱₀ (c : Thread nD τ) none) Set.univ (.op (.load ibufM (Rect.unit (s := S6x256x384) o S1x256x384.size i).toLoadRect h) k) Q) := by
  subst e
  rw [← loaded H1 H2 D n]
  iintro H Hk
  iapply (wp_load_rect 𝒱₀ (c : Thread nD τ) none Set.univ (m := ibufM) (r := islotRect n) (S := (islotRect n).set) (q := fullShare) (f := ibufAt H1 H2 D n) (View.set_slice_whole _ _).le) $$ H
  iexact Hk

/-- An output slot filled with zeros (its contents loaded first, and not used). -/
theorem wp_fill {o o' : Fin 3 → ℕ} {i i' h h1 h2} {Q : α → sProp 𝕄} {k : PUnit → Prog (TpuEff nD τ sig (Elt F) Λ₀ .tc) α} (e : o = oslotOff n) (e' : o' = oslotOff n)
    (f : S4x512x512.Idx → Elt F .f32) :
    heldS c (oslotRect n).set f
      ⊢ iprop((heldS c (oslotRect n).set (obufZero (F := F)) -∗ wp frame (wpE (defs₀ (F := F)) 𝒱₀ (c : Thread nD τ) none) Set.univ (k ⟨⟩) Q)
        -∗ wp frame (wpE (defs₀ (F := F)) 𝒱₀ (c : Thread nD τ) none) Set.univ (.op (.load obufM (Rect.unit (s := S4x512x512) o S1x512x512.size i).toLoadRect h) fun _ =>
            .op (.store obufM (Rect.unit (s := S4x512x512) o' S1x512x512.size i') (k0_pay1 (F := F)) Finset.univ h1 h2) k) Q) := by
  subst e; subst e'
  iintro H Hk
  iapply (wp_load_rect 𝒱₀ (c : Thread nD τ) none Set.univ (m := obufM) (r := oslotRect n) (S := (oslotRect n).set) (q := fullShare) (f := f) (View.set_slice_whole _ _).le) $$ H
  iintro H
  iapply (wp_store 𝒱₀ (c : Thread nD τ) none Set.univ (m := obufM) (r := oslotRect n) (w := k0_pay1 (F := F)) (Mk := Finset.univ) (hx := h1) (hm := h2) (S := (oslotRect n).set) (f := f) ((View.setOn_univ _).trans (View.set_slice_whole _ _)).le) $$ H
  iintro H
  ihave H := (Entails.of_eq (pointsTo_congr (ℓ := (c : Thread nD τ).loc cc0_scratch1) (q := fullShare) (filled n f))) $$ H
  iapply Hk
  iexact H

theorem owin_sub (n k : ℕ) : (obufM.access (owinRect H1 H2 n k)).set ⊆ (oslotRect n).set := by
  rw [View.set_slice_whole]
  intro y hy
  rw [Rect.mem_set_unit] at hy ⊢
  intro a; match a with
  | ⟨0, _⟩ => exact hy 0
  | ⟨1, _⟩ => exact ⟨Nat.zero_le _, by have : (y 1).val < 512 := (y 1).isLt; show (y 1).val < 0 + 512; omega⟩
  | ⟨2, _⟩ => exact ⟨Nat.zero_le _, by have : (y 2).val < 512 := (y 2).isLt; show (y 2).val < 0 + 512; omega⟩

/-- An output slot's window cleared of image `m`'s block. -/
theorem wp_clear {m : ℕ} {o o' : Fin 3 → ℕ} {i i' h h1 h2} {Q : α → sProp 𝕄} {k : PUnit → Prog (TpuEff nD τ sig (Elt F) Λ₀ .tc) α} (e : o = owinOff H1 H2 n m) (e' : o' = owinOff H1 H2 n m) :
    heldS c (oslotRect n).set (obufAt H1 H2 D X m)
      ⊢ iprop((heldS c (oslotRect n).set (obufZero (F := F)) -∗ wp frame (wpE (defs₀ (F := F)) 𝒱₀ (c : Thread nD τ) none) Set.univ (k ⟨⟩) Q)
        -∗ wp frame (wpE (defs₀ (F := F)) 𝒱₀ (c : Thread nD τ) none) Set.univ (.op (.load obufM (Rect.unit (s := S4x512x512) o S1x256x384.size i).toLoadRect h) fun _ =>
            .op (.store obufM (Rect.unit (s := S4x512x512) o' S1x256x384.size i') (k0_pay2 (F := F)) Finset.univ h1 h2) k) Q) := by
  subst e; subst e'
  iintro H Hk
  iapply (wp_load_rect 𝒱₀ (c : Thread nD τ) none Set.univ (m := obufM) (r := owinRect H1 H2 n m) (S := (oslotRect n).set) (q := fullShare) (f := obufAt H1 H2 D X m) (owin_sub n m)) $$ H
  iintro H
  iapply (wp_store 𝒱₀ (c : Thread nD τ) none Set.univ (m := obufM) (r := owinRect H1 H2 n m) (w := k0_pay2 (F := F)) (Mk := Finset.univ) (hx := h1) (hm := h2) (S := (oslotRect n).set) (f := obufAt H1 H2 D X m) ((View.setOn_univ _).le.trans (owin_sub n m))) $$ H
  iintro H
  ihave H := (Entails.of_eq (pointsTo_congr (ℓ := (c : Thread nD τ).loc cc0_scratch1) (q := fullShare) (cleared H1 H2 D X n m (obufAt H1 H2 D X m) (fun _ _ => rfl)))) $$ H
  iapply Hk
  iexact H

/-- The masked block pasted into a slot of zeros. -/
theorem wp_paste {o o' : Fin 3 → ℕ} {i i' h h1 h2} {w : Vec F S1x256x384 .f32} {Q : α → sProp 𝕄} {k : PUnit → Prog (TpuEff nD τ sig (Elt F) Λ₀ .tc) α} (e : o = owinOff H1 H2 n n) (e' : o' = owinOff H1 H2 n n)
    (hw : w = masked H1 H2 D X n) :
    heldS c (oslotRect n).set (obufZero (F := F))
      ⊢ iprop((heldS c (oslotRect n).set (obufAt H1 H2 D X n) -∗ wp frame (wpE (defs₀ (F := F)) 𝒱₀ (c : Thread nD τ) none) Set.univ (k ⟨⟩) Q)
        -∗ wp frame (wpE (defs₀ (F := F)) 𝒱₀ (c : Thread nD τ) none) Set.univ (.op (.load obufM (Rect.unit (s := S4x512x512) o S1x256x384.size i).toLoadRect h) fun _ =>
            .op (.store obufM (Rect.unit (s := S4x512x512) o' S1x256x384.size i') w Finset.univ h1 h2) k) Q) := by
  subst e; subst e'; subst hw
  iintro H Hk
  iapply (wp_load_rect 𝒱₀ (c : Thread nD τ) none Set.univ (m := obufM) (r := owinRect H1 H2 n n) (S := (oslotRect n).set) (q := fullShare) (f := obufZero (F := F)) (owin_sub n n)) $$ H
  iintro H
  iapply (wp_store 𝒱₀ (c : Thread nD τ) none Set.univ (m := obufM) (r := owinRect H1 H2 n n) (w := masked H1 H2 D X n) (Mk := Finset.univ) (hx := h1) (hm := h2) (S := (oslotRect n).set) (f := obufZero (F := F)) ((View.setOn_univ _).le.trans (owin_sub n n))) $$ H
  iintro H
  ihave H := (Entails.of_eq (pointsTo_congr (ℓ := (c : Thread nD τ).loc cc0_scratch1) (q := fullShare) (finished H1 H2 D X n (obufZero (F := F)) (fun _ _ => rfl)))) $$ H
  iapply Hk
  iexact H

end Cert.Proof.CropIdeal

end
-- ==== Proof.RingsIdeal.lean ====
/-
  The kernel's steps on the rings: a transfer started or awaited takes the ring from one stretch of images under way to
  the next. With them the parts of one grid step, each at any continuation.
-/
module

public import proofs.«01_k».proof.Proof.StepsIdeal

@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

variable (c : Dev nD) (H1 H2 : S100.Idx → Elt F .i32) (D : S100x512x512.Idx → Elt F .f32) (X : S4x100.Idx → Elt F .f32)

/-! ## What one grid step holds -/

/-- The two tables, at the share the body reads them with. -/
def tables : sProp 𝕄 :=
  iprop((((c : Thread nD τ).loc main_v10) ↦[Finset.univ]{fullShare.right} H1) ∗ (((c : Thread nD τ).loc main_v13) ↦[Finset.univ]{fullShare.right} H2))
/-- The boxes, staged. -/
def boxes : sProp 𝕄 := ((c : Thread nD τ).loc cc0_stg0_0) ↦[Finset.univ]{fullShare} X
/-- The input ring with images `a, …, b - 1` under way. -/
def iRing (a b : ℕ) : sProp 𝕄 := ring 6 (iFree c D) (iFly c H1 H2 D) a b
/-- The output ring with images `a, …, b - 1` under way. -/
def oRing (a b : ℕ) : sProp 𝕄 := ring 4 (oFree (F := F) c) (oFly c H1 H2 D X) a b
/-- The first `k` images of the output, finished. -/
def done (k : ℕ) : sProp 𝕄 := bigSep (Finset.range k) fun i => heldO c (imgRect i).set (result H1 H2 D X)
/-- The images from `k` on, as launched. -/
def fresh (G : S100x512x512.Idx → Elt F .f32) (k : ℕ) : sProp 𝕄 := bigSep (Finset.Ico k 100) fun i => heldO c (imgRect i).set G
/-- Nothing owed, whatever was waited for. -/
def debts : sProp 𝕄 := iprop(∃ W : Waits sig Unit, owes (c : Thread nD τ) 0 W)
/-- Image `n` arrived: its block in its slot, the cell and the share back, and the other slots. -/
def arrived (n : ℕ) : sProp 𝕄 :=
  iprop(heldI c (islotRect n).set (ibufAt H1 H2 D n) ∗ heldD c Finset.univ (tok (n % 6)) D ∗ cellZ (F := F) c (icell n)
    ∗ others 6 (iFree c D) (iFly c H1 H2 D) n (min (n + 6) 100) n)
/-- Image `n`'s output slot before it is cleared: at anything the first time round, at image `n - 4` later. -/
def dirty (n : ℕ) : sProp 𝕄 :=
  if n < 4 then iprop(∃ f, heldS (F := F) c (oslotRect n).set f) else heldS c (oslotRect n).set (obufAt H1 H2 D X (n - 4))
/-- The rest of the output ring while image `n` is being written. -/
def aside (n : ℕ) : sProp 𝕄 :=
  iprop(cellZ (F := F) c (ocell n) ∗ others 4 (oFree (F := F) c) (oFly c H1 H2 D X) (n - 3) n n)
/-- How far ahead the input ring is before step `n`. -/
def ahead (n : ℕ) : ℕ := if n = 0 then 0 else min (n + 5) 100

theorem done_succ (k : ℕ) : done c H1 H2 D X (k + 1) = iprop(heldO c (imgRect k).set (result H1 H2 D X) ∗ done c H1 H2 D X k) := by
  unfold done; rw [Finset.range_add_one]; exact bigSep_insert Finset.notMem_range_self
theorem fresh_pop (G : S100x512x512.Idx → Elt F .f32) {k : ℕ} (hk : k < 100) :
    fresh c G k = iprop(heldO c (imgRect k).set G ∗ fresh c G (k + 1)) := by
  unfold fresh
  rw [bigSep_erase (Finset.left_mem_Ico.2 hk)]
  congr 2
  ext x; simp only [Finset.mem_erase, Finset.mem_Ico]; omega

/-! ## The rings' turns -/

variable {c H1 H2 D X}
variable {α : Type} {n : ℕ}

/-- An input transfer started, on the ring. -/
theorem wp_start_ring {a m : ℕ} {oS oD : Fin 3 → ℕ} {oC : Fin 1 → ℕ} {iS iD iC hs hd h1 h2 h3} {Q : α → sProp 𝕄} {k : PUnit → Prog (TpuEff nD τ sig (Elt F) Λ₀ .tc) α}
    (h : a ≤ m) (h' : m < a + 6) (eS : oS = winOff H1 H2 m) (eD : oD = islotOff m) (eC : oC = ![m % 6]) :
    iRing c H1 H2 D a m
      ⊢ iprop((iRing c H1 H2 D a (m + 1) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((dataM.slice (Rect.unit oS S1x256x384.size iS) hs).squeeze S256x384 squeezes_S1x256x384_S256x384)
            (.here ((ibufM.slice (Rect.unit oD S1x256x384.size iD) hd).squeeze S256x384 squeezes_S1x256x384_S256x384))
            (.dma ((cc0_scratch2.slice (Rect.unit (s := S6) oC S1.size iC)).squeeze S_ squeezes_S1_S_).sem) h1 h2 h3) k) Q) := by
  unfold iRing
  rw [ring_before_start _ _ (by decide) h h', ring_after_start _ _ (by decide) h h']
  iintro ⟨Hf, Ho⟩ Hk
  iapply (wp_start (H1 := H1) (H2 := H2) (n := m) (iS := iS) (iD := iD) (iC := iC) (hs := hs) (hd := hd) (h1 := h1) (h2 := h2) (h3 := h3) eS eD eC) $$ Hf
  iintro Hf
  iapply Hk
  isplitl [Hf]; · iexact Hf
  iexact Ho

/-- A branch that one side runs and the other passes by, with what it does stated as a change of resources. -/
theorem wp_branch {p : Prop} [Decidable p] {R R' : sProp 𝕄} {Q : α → sProp 𝕄} {A : p → Prog (TpuEff nD τ sig (Elt F) Λ₀ .tc) α} {K : Prog (TpuEff nD τ sig (Elt F) Λ₀ .tc) α}
    (hA : ∀ h : p, R ⊢ iprop((R' -∗ wp frame (wpE (defs₀ (F := F)) 𝒱₀ (c : Thread nD τ) none) Set.univ K Q)
      -∗ wp frame (wpE (defs₀ (F := F)) 𝒱₀ (c : Thread nD τ) none) Set.univ (A h) Q))
    (hN : ¬ p → R ⊢ R') :
    R ⊢ iprop((R' -∗ wp frame (wpE (defs₀ (F := F)) 𝒱₀ (c : Thread nD τ) none) Set.univ K Q)
      -∗ wp frame (wpE (defs₀ (F := F)) 𝒱₀ (c : Thread nD τ) none) Set.univ (if h : p then A h else K) Q) := by
  by_cases h : p
  · simp only [dif_pos h]; exact hA h
  · simp only [dif_neg h]
    iintro H Hk
    iapply Hk
    iapply (hN h) $$ H

end Cert.Proof.CropIdeal

end
-- ==== Proof.FrontIdeal.lean ====
/-
  The front of one grid step: input transfers started (five at the first step, then one ahead), this image's input
  awaited, the output transfer four images back awaited, the box read.
-/
module

public import proofs.«01_k».proof.Proof.RingsIdeal

@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

variable {c : Dev nD} {H1 H2 : S100.Idx → Elt F .i32} {D : S100x512x512.Idx → Elt F .f32} {X : S4x100.Idx → Elt F .f32}
variable {α : Type}

/-- A window's offsets, spelled with the tables' words. -/
theorem win_words (hF : Fit H1 H2) {m : ℕ} (hm : m < 100) :
    (![m, (Scalar.muli (word H1 m) 8#32).toNat, (Scalar.muli (word H2 m) 128#32).toNat] : Fin 3 → ℕ) = winOff H1 H2 m := by
  rw [row_word hF hm, col_word hF hm, winOff, Nat.min_eq_left (by omega : m ≤ 99)]
theorem inb_of_eq {o o' : Fin 3 → ℕ} (e : o = o') {z b : Fin 3 → ℕ} (h : ∀ a, o' a + z a ≤ b a) : ∀ a, o a + z a ≤ b a := e ▸ h

theorem off1_win (hF : Fit H1 H2) : k0_off1 (word H1 0) (word H2 0) = winOff H1 H2 0 := win_words hF (by omega)
theorem off2_win (hF : Fit H1 H2) : k0_off2 (word H1 1) (word H2 1) = winOff H1 H2 1 := win_words hF (by omega)
theorem off3_win (hF : Fit H1 H2) : k0_off3 (word H1 2) (word H2 2) = winOff H1 H2 2 := win_words hF (by omega)
theorem off4_win (hF : Fit H1 H2) : k0_off4 (word H1 3) (word H2 3) = winOff H1 H2 3 := win_words hF (by omega)
theorem off5_win (hF : Fit H1 H2) : k0_off5 (word H1 4) (word H2 4) = winOff H1 H2 4 := win_words hF (by omega)

variable (i : grid0.Coords) (n : ℕ) (hi : (i 0).val = n) (hn : n < 100)
include hi hn

theorem part3_run (hF : Fit H1 H2) (hw7 : k0_chk7 i (word H1 n) (word H2 n))
    (Q : (Σ' (arg0 : BitVec 32) (v8 : BitVec 32) (v10 : Elt F .i32) (v11 : BitVec 32) (v13 : Elt F .i32) (k0_hw7 : k0_chk7 i v10 v13) (v14 : BitVec 32) (v21 : BitVec 32) (v26 : Elt F .f32) (v28 : Elt F .f32) (v30 : Elt F .f32) (v32 : Elt F .f32), BitVec 32) → sProp 𝕄) :
    iprop(tables c H1 H2 ∗ boxes c X ∗ iRing c H1 H2 D n (ahead n) ∗ oRing c H1 H2 D X (n - 4) n ∗ done c H1 H2 D X (n - 4) ∗ debts (F := F) c)
      ⊢ iprop((tables c H1 H2 ∗ boxes c X ∗ arrived c H1 H2 D n ∗ dirty c H1 H2 D X n ∗ aside c H1 H2 D X n ∗ done c H1 H2 D X (n - 3) ∗ debts (F := F) c
          -∗ Q ⟨BitVec.ofNat 32 (i 0).val, Scalar.remsi (BitVec.ofNat 32 (i 0).val) 6#32, word H1 n, Scalar.muli (word H1 n) 8#32, word H2 n, hw7, Scalar.muli (word H2 n) 128#32,
              Scalar.remsi (BitVec.ofNat 32 (i 0).val) 4#32, roi X 0 n, roi X 1 n, roi X 2 n, roi X 3 n, Scalar.extui (Scalar.cmpi .slt (BitVec.ofNat 32 (i 0).val) 4#32)⟩)
        -∗ wp frame (wpE (defs₀ (F := F)) 𝒱₀ (c : Thread nD τ) none) Set.univ (k0_part3 (F := F) i hsM (Memref.isWhole_whole _) wsM (Memref.isWhole_whole _) (Memref.whole cc0_stg0_0 : Memref sig .tc .smem S4x100 .f32) (Memref.isWhole_whole _)
          dataM (Memref.isWhole_whole _) outM (Memref.isWhole_whole _) ibufM (Memref.isWhole_whole _) obufM (Memref.isWhole_whole _) cc0_scratch2 cc0_scratch3) Q) := by
  rw [k0_part3_eq_skeleton]
  unfold k0_part3_skel
  rw [k0_part1_eq_skeleton]
  unfold k0_part1_skel
  simp only [Prog.lift, Prog.bind_op, Prog.bind_ret, bind_assoc, pure_bind]
  iintro ⟨HT, HX, HI, HO, HD, HW⟩ Hk
  -- the five first transfers
  iapply (wp_branch (R := iprop(tables c H1 H2 ∗ iRing c H1 H2 D n (ahead n))) (R' := iprop(tables c H1 H2 ∗ iRing c H1 H2 D n (min (n + 5) 100))) ?_ ?_) $$ [HT HI]
  · intro h
    have h0 : n = 0 := (cond1_iff i n hi hn).1 h
    subst h0
    unfold tables ahead
    rw [if_pos rfl]
    iintro ⟨⟨Ha, Hb⟩, HR⟩ Hk
    iapply (wp_word1 (n := 0) (by omega) rfl) $$ Ha; iintro Ha
    iapply (wp_word2 (n := 0) (by omega) rfl) $$ Hb; iintro Hb
    iapply (wp_assume 𝒱₀ (c : Thread nD τ) none Set.univ (fun _ => inb_of_eq (off1_win hF) (winOff_inb H1 H2 0)))
    iapply (wp_start_ring (a := 0) (m := 0) (by omega) (by omega) (off1_win hF) rfl rfl) $$ HR; iintro HR
    iapply (wp_word1 (n := 1) (by omega) rfl) $$ Ha; iintro Ha
    iapply (wp_word2 (n := 1) (by omega) rfl) $$ Hb; iintro Hb
    iapply (wp_assume 𝒱₀ (c : Thread nD τ) none Set.univ (fun _ => inb_of_eq (off2_win hF) (winOff_inb H1 H2 1)))
    iapply (wp_start_ring (a := 0) (m := 1) (by omega) (by omega) (off2_win hF) rfl rfl) $$ HR; iintro HR
    iapply (wp_word1 (n := 2) (by omega) rfl) $$ Ha; iintro Ha
    iapply (wp_word2 (n := 2) (by omega) rfl) $$ Hb; iintro Hb
    iapply (wp_assume 𝒱₀ (c : Thread nD τ) none Set.univ (fun _ => inb_of_eq (off3_win hF) (winOff_inb H1 H2 2)))
    iapply (wp_start_ring (a := 0) (m := 2) (by omega) (by omega) (off3_win hF) rfl rfl) $$ HR; iintro HR
    iapply (wp_word1 (n := 3) (by omega) rfl) $$ Ha; iintro Ha
    iapply (wp_word2 (n := 3) (by omega) rfl) $$ Hb; iintro Hb
    iapply (wp_assume 𝒱₀ (c : Thread nD τ) none Set.univ (fun _ => inb_of_eq (off4_win hF) (winOff_inb H1 H2 3)))
    iapply (wp_start_ring (a := 0) (m := 3) (by omega) (by omega) (off4_win hF) rfl rfl) $$ HR; iintro HR
    iapply (wp_word1 (n := 4) (by omega) rfl) $$ Ha; iintro Ha
    iapply (wp_word2 (n := 4) (by omega) rfl) $$ Hb; iintro Hb
    iapply (wp_assume 𝒱₀ (c : Thread nD τ) none Set.univ (fun _ => inb_of_eq (off5_win hF) (winOff_inb H1 H2 4)))
    iapply (wp_start_ring (a := 0) (m := 4) (by omega) (by omega) (off5_win hF) rfl rfl) $$ HR; iintro HR
    iapply Hk
    isplitl [Ha Hb]
    · isplitl [Ha]; · iexact Ha
      iexact Hb
    iexact HR
  · intro h
    have h0 : n ≠ 0 := fun e => h ((cond1_iff i n hi hn).2 e)
    unfold ahead; rw [if_neg h0]
  · isplitl [HT]; · iexact HT
    iexact HI
  iintro ⟨HT, HI⟩
  -- the transfer one turn ahead
  iapply (wp_branch (R := iprop(tables c H1 H2 ∗ iRing c H1 H2 D n (min (n + 5) 100))) (R' := iprop(tables c H1 H2 ∗ iRing c H1 H2 D n (min (n + 6) 100))) ?_ ?_) $$ [HT HI]
  · intro h
    have h5 : n + 5 < 100 := (cond2_iff i n hi hn).1 h
    rw [Nat.min_eq_left (by omega : n + 5 ≤ 100), Nat.min_eq_left (by omega : n + 6 ≤ 100)]
    have ew : k0_off9 i (word H1 (n + 5)) (word H2 (n + 5)) = winOff H1 H2 (n + 5) := (off9_eq i n hi hn _ _).trans (win_words hF h5)
    unfold tables
    iintro ⟨⟨Ha, Hb⟩, HR⟩ Hk
    iapply (wp_word1 (n := n + 5) h5 (off6_eq i n hi hn)) $$ Ha; iintro Ha
    iapply (wp_word2 (n := n + 5) h5 (off6_eq i n hi hn)) $$ Hb; iintro Hb
    iapply (wp_assume 𝒱₀ (c : Thread nD τ) none Set.univ (fun _ => inb_of_eq ew (winOff_inb H1 H2 (n + 5))))
    iapply (wp_start_ring (a := n) (m := n + 5) (by omega) (by omega) ew (off8_eq i n hi hn) (off7_eq i n hi hn)) $$ HR; iintro HR
    iapply Hk
    isplitl [Ha Hb]
    · isplitl [Ha]; · iexact Ha
      iexact Hb
    iexact HR
  · intro h
    have h5 : ¬ n + 5 < 100 := fun e => h ((cond2_iff i n hi hn).2 e)
    rw [Nat.min_eq_right (by omega : 100 ≤ n + 5), Nat.min_eq_right (by omega : 100 ≤ n + 6)]
  · isplitl [HT]; · iexact HT
    iexact HI
  iintro ⟨HT, HI⟩
  -- this image's tables, and its block's arrival
  unfold tables
  icases HT with ⟨Ha, Hb⟩
  iapply (wp_word1 (n := n) hn (off10_eq i n hi hn)) $$ Ha; iintro Ha
  iapply (wp_word2 (n := n) hn (off10_eq i n hi hn)) $$ Hb; iintro Hb
  iapply (wp_assume 𝒱₀ (c : Thread nD τ) none Set.univ hw7)
  unfold iRing debts
  icases HW with ⟨%W, HW⟩
  ihave HI := (Entails.of_eq (ring_before_end (iFree c D) (iFly c H1 H2 D) (by decide) (by omega : n < min (n + 6) 100))) $$ HI
  icases HI with ⟨HF, Hoth⟩
  iapply (wp_arrive (H1 := H1) (H2 := H2) (D := D) (n := n) (W := W) (off11_eq i n hi hn)) $$ [HF HW]
  · isplitl [HF]; · iexact HF
    iexact HW
  iintro ⟨HW, Hi, Hd, Hc⟩
  -- the output slot's last transfer
  iapply (wp_branch (R := iprop(debts (F := F) c ∗ oRing c H1 H2 D X (n - 4) n ∗ done c H1 H2 D X (n - 4)))
    (R' := iprop(debts (F := F) c ∗ dirty c H1 H2 D X n ∗ aside c H1 H2 D X n ∗ done c H1 H2 D X (n - 3))) ?_ ?_) $$ [HW HO HD]
  · intro h
    have h4 : 4 ≤ n := (cond3_iff i n hi hn).1 h
    obtain ⟨m, rfl⟩ : ∃ m, n = m + 4 := ⟨n - 4, by omega⟩
    unfold debts oRing dirty aside
    rw [show m + 4 - 4 = m from rfl, show m + 4 - 3 = m + 1 from rfl, if_neg (by omega : ¬ m + 4 < 4), done_succ,
      ring_before_end (oFree c) (oFly c H1 H2 D X) (by decide) (by omega : m < m + 4)]
    rw [show others 4 (oFree (F := F) c) (oFly c H1 H2 D X) (m + 1) (m + 4) (m + 4) = others 4 (oFree c) (oFly c H1 H2 D X) (m + 1) (m + 4) m from by
      unfold others; rw [Nat.add_mod_right], others_end (oFree c) (oFly c H1 H2 D X) (by decide), ocell_congr (Nat.add_mod_right m 4), oslot_congr (Nat.add_mod_right m 4)]
    iintro ⟨⟨%W', HW⟩, ⟨HF, Hoth⟩, HD⟩ Hk
    iapply (wp_sent (H1 := H1) (H2 := H2) (D := D) (X := X) (n := m) (W := W') ((off14_eq i _ hi hn).trans (by rw [Nat.add_mod_right]))) $$ [HF HW]
    · isplitl [HF]; · iexact HF
      iexact HW
    iintro ⟨HW, Ho, Hs, Hc⟩
    iapply Hk
    isplitl [HW]; · iexact HW
    isplitl [Hs]; · iexact Hs
    isplitl [Hc Hoth]
    · isplitl [Hc]; · iexact Hc
      iexact Hoth
    isplitl [Ho]; · iexact Ho
    iexact HD
  · intro h
    have h4 : n < 4 := Nat.lt_of_not_le fun e => h ((cond3_iff i n hi hn).2 e)
    unfold oRing dirty aside
    rw [show n - 4 = 0 by omega, show n - 3 = 0 by omega, if_pos h4, ring_before_start (oFree c) (oFly c H1 H2 D X) (by decide) (by omega : 0 ≤ n) (by omega)]
    unfold oFree
    rw [ocell_congr (Nat.mod_mod n 4), oslot_congr (Nat.mod_mod n 4)]
    iintro ⟨HW, ⟨⟨Hc, Hs⟩, Hoth⟩, HD⟩
    isplitl [HW]; · iexact HW
    isplitl [Hs]; · iexact Hs
    isplitl [Hc Hoth]
    · isplitl [Hc]; · iexact Hc
      iexact Hoth
    iexact HD
  · isplitl [HW]; · unfold debts; iexact HW
    isplitl [HO]; · iexact HO
    iexact HD
  iintro ⟨HW, Hs, Hr, HD⟩
  -- the box
  unfold boxes
  iapply (wp_roi 0 (n := n) hn (off17_eq i n hi hn)) $$ HX; iintro HX
  iapply (wp_roi 1 (n := n) hn (off18_eq i n hi hn)) $$ HX; iintro HX
  iapply (wp_roi 2 (n := n) hn (off19_eq i n hi hn)) $$ HX; iintro HX
  iapply (wp_roi 3 (n := n) hn (off20_eq i n hi hn)) $$ HX; iintro HX
  rw [wp_pure]; imodintro
  iapply Hk
  isplitl [Ha Hb]
  · isplitl [Ha]; · iexact Ha
    iexact Hb
  isplitl [HX]; · iexact HX
  isplitl [Hi Hd Hc Hoth]
  · unfold arrived
    isplitl [Hi]; · iexact Hi
    isplitl [Hd]; · iexact Hd
    isplitl [Hc]; · iexact Hc
    iexact Hoth
  isplitl [Hs]; · iexact Hs
  isplitl [Hr]; · iexact Hr
  isplitl [HD]; · iexact HD
  unfold debts; iexact HW

end Cert.Proof.CropIdeal

end
-- ==== Proof.BackIdeal.lean ====
/-
  The back of one grid step: the output slot cleared, the masked block pasted into it, its transfer started; at the
  last step the four transfers still under way awaited. Then the whole step.
-/
module

public import proofs.«01_k».proof.Proof.FrontIdeal

@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

variable {c : Dev nD} {H1 H2 : S100.Idx → Elt F .i32} {D : S100x512x512.Idx → Elt F .f32} {X : S4x100.Idx → Elt F .f32}
variable {α : Type}

/-- The output slot between its two clearings: at zeros the first time round, at image `n - 4` later. -/
def half (c : Dev nD) (H1 H2 : S100.Idx → Elt F .i32) (D : S100x512x512.Idx → Elt F .f32) (X : S4x100.Idx → Elt F .f32) (n : ℕ) : sProp 𝕄 :=
  if n < 4 then heldS c (oslotRect n).set (obufZero (F := F)) else heldS c (oslotRect n).set (obufAt H1 H2 D X (n - 4))

/-- A window's offsets in an output slot, spelled with the tables' words. -/
theorem owin_words (hF : Fit H1 H2) (n : ℕ) {m : ℕ} (hm : m < 100) :
    (![n % 4, (Scalar.muli (word H1 m) 8#32).toNat, (Scalar.muli (word H2 m) 128#32).toNat] : Fin 3 → ℕ) = owinOff H1 H2 n m := by
  rw [row_word hF hm, col_word hF hm]

/-- The ring of four, slot by slot. -/
theorem range_four (Φ : ℕ → sProp 𝕄) : bigSep (Finset.range 4) Φ = iprop(Φ 3 ∗ Φ 2 ∗ Φ 1 ∗ Φ 0) := by
  rw [Finset.range_add_one, bigSep_insert Finset.notMem_range_self, Finset.range_add_one, bigSep_insert Finset.notMem_range_self,
    Finset.range_add_one, bigSep_insert Finset.notMem_range_self, Finset.range_add_one, bigSep_insert Finset.notMem_range_self, Finset.range_zero, bigSep_empty,
    equiv_iff.mp sep_emp]
  rfl

/-- The output ring with the last four images under way, -/
theorem oRing_last : oRing c H1 H2 D X 96 100 = iprop(oFly c H1 H2 D X 99 ∗ oFly c H1 H2 D X 98 ∗ oFly c H1 H2 D X 97 ∗ oFly c H1 H2 D X 96) := by
  unfold oRing ring; rw [range_four]
  simp only [slotAt, job, Nat.reduceAdd, Nat.reduceMod, Nat.reduceSub, Nat.reduceLT, if_true]
/-- and idle. -/
theorem oRing_idle : oRing c H1 H2 D X 100 100 = iprop(oFree (F := F) c 3 ∗ oFree (F := F) c 2 ∗ oFree (F := F) c 1 ∗ oFree (F := F) c 0) := by
  unfold oRing; rw [ring_idle _ _ (by decide), range_four]
/-- The output finished is its last four images and the ones before. -/
theorem done_last : done c H1 H2 D X 100 = iprop(heldO c (imgRect 99).set (result H1 H2 D X) ∗ heldO c (imgRect 98).set (result H1 H2 D X)
    ∗ heldO c (imgRect 97).set (result H1 H2 D X) ∗ heldO c (imgRect 96).set (result H1 H2 D X) ∗ done c H1 H2 D X 96) := by
  rw [done_succ c H1 H2 D X 99, done_succ c H1 H2 D X 98, done_succ c H1 H2 D X 97, done_succ c H1 H2 D X 96]
/-- A slot whose transfer was awaited is idle. -/
theorem oFree_of {n s : ℕ} (e : n % 4 = s) : iprop(heldS c (oslotRect n).set (obufAt H1 H2 D X n) ∗ cellZ (F := F) c (ocell n)) ⊢ oFree (F := F) c s := by
  subst e
  unfold oFree
  rw [ocell_congr (Nat.mod_mod n 4), oslot_congr (Nat.mod_mod n 4)]
  iintro ⟨Hs, Hc⟩
  isplitl [Hc]; · iexact Hc
  iexists _; iexact Hs

variable (i : grid0.Coords) (n : ℕ) (hi : (i 0).val = n) (hn : n < 100)
include hi hn

theorem part4_run (hF : Fit H1 H2) (hw7 : k0_chk7 i (word H1 n) (word H2 n)) (G : S100x512x512.Idx → Elt F .f32) (v0 v8 v21 v34 : BitVec 32)
    (Q : (Σ' (v78 : BitVec 32), BitVec 32) → sProp 𝕄) :
    iprop(tables c H1 H2 ∗ heldI c (islotRect n).set (ibufAt H1 H2 D n) ∗ dirty c H1 H2 D X n ∗ aside c H1 H2 D X n ∗ fresh c G n)
      ⊢ iprop((tables c H1 H2 ∗ heldI c (islotRect n).set (ibufAt H1 H2 D n) ∗ oRing c H1 H2 D X (n - 3) (n + 1) ∗ fresh c G (n + 1)
          -∗ Q ⟨Scalar.extui (Scalar.cmpi .eq v0 99#32), 0#32⟩)
        -∗ wp frame (wpE (defs₀ (F := F)) 𝒱₀ (c : Thread nD τ) none) Set.univ (k0_part4 (F := F) i hsM (Memref.isWhole_whole _) wsM (Memref.isWhole_whole _) (Memref.whole cc0_stg0_0 : Memref sig .tc .smem S4x100 .f32) (Memref.isWhole_whole _)
          dataM (Memref.isWhole_whole _) outM (Memref.isWhole_whole _) ibufM (Memref.isWhole_whole _) obufM (Memref.isWhole_whole _) cc0_scratch2 cc0_scratch3
          v0 v8 (word H1 n) (Scalar.muli (word H1 n) 8#32) (word H2 n) hw7 (Scalar.muli (word H2 n) 128#32) v21 (roi X 0 n) (roi X 1 n) (roi X 2 n) (roi X 3 n) v34) Q) := by
  rw [k0_part4_eq_skeleton]
  unfold k0_part4_skel
  simp only [Prog.lift, Prog.bind_op, Prog.bind_ret, bind_assoc, pure_bind]
  iintro ⟨HT, Hi, Hs, Hr, HG⟩ Hk
  iapply (wp_branch (R := dirty c H1 H2 D X n) (R' := half c H1 H2 D X n) ?_ ?_) $$ [Hs]
  · intro h
    have h4 : n < 4 := (cond4_iff i n hi hn).1 h
    unfold dirty half; rw [if_pos h4, if_pos h4]
    iintro ⟨%f, Hs⟩ Hk
    iapply (wp_fill (n := n) (off21_eq i n hi hn) (off21_eq i n hi hn) f) $$ Hs; iintro Hs
    iapply Hk; iexact Hs
  · intro h
    have h4 : ¬ n < 4 := fun e => h ((cond4_iff i n hi hn).2 e)
    unfold dirty half; rw [if_neg h4, if_neg h4]
  · iexact Hs
  iintro Hs
  iapply (wp_branch (R := iprop(tables c H1 H2 ∗ half c H1 H2 D X n)) (R' := iprop(tables c H1 H2 ∗ heldS c (oslotRect n).set (obufZero (F := F)))) ?_ ?_) $$ [HT Hs]
  · intro h
    have h4 : 4 ≤ n := (cond5_iff i n hi hn).1 h
    have ew : k0_off23 i (word H1 (n - 4)) (word H2 (n - 4)) = owinOff H1 H2 n (n - 4) := (off23_eq i n hi hn _ _).trans (owin_words hF n (by omega))
    unfold tables half; rw [if_neg (by omega)]
    iintro ⟨⟨Ha, Hb⟩, Hs⟩ Hk
    iapply (wp_word1 (n := n - 4) (by omega) (off22_eq i n hi hn h4)) $$ Ha; iintro Ha
    iapply (wp_word2 (n := n - 4) (by omega) (off22_eq i n hi hn h4)) $$ Hb; iintro Hb
    iapply (wp_assume 𝒱₀ (c : Thread nD τ) none Set.univ (fun _ => inb_of_eq ew (owinOff_inb H1 H2 n (n - 4))))
    iapply (wp_clear (n := n) (m := n - 4) ew ew) $$ Hs; iintro Hs
    iapply Hk
    isplitl [Ha Hb]
    · isplitl [Ha]; · iexact Ha
      iexact Hb
    iexact Hs
  · intro h
    have h4 : n < 4 := Nat.lt_of_not_le fun e => h ((cond5_iff i n hi hn).2 e)
    unfold half; rw [if_pos h4]
  · isplitl [HT]; · iexact HT
    iexact Hs
  iintro ⟨HT, Hs⟩
  iapply (wp_block (n := n) (off24_eq i n hi hn)) $$ Hi; iintro Hi
  iapply (wp_paste (n := n) ((off25_eq i n hi hn _ _).trans (owin_words hF n hn)) ((off25_eq i n hi hn _ _).trans (owin_words hF n hn)) rfl) $$ Hs; iintro Hs
  unfold aside
  icases Hr with ⟨Hc, Hoth⟩
  ihave HG := (Entails.of_eq (fresh_pop c G hn)) $$ HG
  icases HG with ⟨Ho, HG⟩
  iapply (wp_send (n := n) hn (off28_eq i n hi hn) ((off27_eq i n hi hn).trans (by rw [imgOff, Nat.min_eq_left (by omega : n ≤ 99)])) (off26_eq i n hi hn) G) $$ [Hc Hs Ho]
  · isplitl [Hc]; · iexact Hc
    isplitl [Hs]; · iexact Hs
    iexact Ho
  iintro HF
  rw [wp_pure]; imodintro
  iapply Hk
  isplitl [HT]; · iexact HT
  isplitl [Hi]; · iexact Hi
  isplitl [HF Hoth]
  · unfold oRing
    iapply (Entails.of_eq (ring_after_start (oFree (F := F) c) (oFly c H1 H2 D X) (by decide) (by omega : n - 3 ≤ n) (by omega)).symm)
    isplitl [HF]; · iexact HF
    iexact Hoth
  iexact HG

/-- The region's invariant before image `t`'s step: the input ring five images ahead, the output ring four behind, the
    images already delivered and those still as launched. After the last step the output ring is idle. -/
def inv (c : Dev nD) (H1 H2 : S100.Idx → Elt F .i32) (D : S100x512x512.Idx → Elt F .f32) (X : S4x100.Idx → Elt F .f32) (G : S100x512x512.Idx → Elt F .f32) (t : ℕ) : sProp 𝕄 :=
  if t = 100 then iprop(tables c H1 H2 ∗ iRing c H1 H2 D 100 100 ∗ oRing c H1 H2 D X 100 100 ∗ done c H1 H2 D X 100 ∗ fresh c G 100)
  else iprop(tables c H1 H2 ∗ iRing c H1 H2 D t (ahead t) ∗ oRing c H1 H2 D X (t - 4) t ∗ done c H1 H2 D X (t - 4) ∗ fresh c G t)

/-- One grid step takes the invariant to the next. -/
theorem step_run (hF : Fit H1 H2) (G : S100x512x512.Idx → Elt F .f32) (Q : PUnit → sProp 𝕄) :
    iprop(inv c H1 H2 D X G n ∗ boxes c X ∗ debts (F := F) c)
      ⊢ iprop((inv c H1 H2 D X G (n + 1) ∗ boxes c X ∗ debts (F := F) c -∗ Q ⟨⟩)
        -∗ wp frame (wpE (defs₀ (F := F)) 𝒱₀ (c : Thread nD τ) none) Set.univ (cc0__crop_kernel (F := F) i hsM (Memref.isWhole_whole _) wsM (Memref.isWhole_whole _) (Memref.whole cc0_stg0_0 : Memref sig .tc .smem S4x100 .f32) (Memref.isWhole_whole _)
          dataM (Memref.isWhole_whole _) outM (Memref.isWhole_whole _) ibufM (Memref.isWhole_whole _) obufM (Memref.isWhole_whole _) cc0_scratch2 cc0_scratch3) Q) := by
  have hw7 : k0_chk7 i (word H1 n) (word H2 n) :=
    ⟨inb_of_eq ((off13_eq i n hi hn _ _).trans (win_words hF hn)) (winOff_inb H1 H2 n), inb_of_eq ((off25_eq i n hi hn _ _).trans (owin_words hF n hn)) (owinOff_inb H1 H2 n n)⟩
  rw [cc0__crop_kernel_eq_skeleton]
  unfold cc0__crop_kernel_skel
  simp only [k0_part2_eq_skeleton]
  unfold k0_part2_skel
  simp only [Prog.lift, Prog.bind_op, Prog.bind_ret, bind_assoc, pure_bind]
  rw [wp_bind]
  rw [inv, if_neg (by omega)]
  iintro ⟨⟨HT, HI, HO, HD, HG⟩, HX, HW⟩ Hk
  iapply (part3_run i n hi hn hF hw7 _) $$ [HT HX HI HO HD HW]
  · isplitl [HT]; · iexact HT
    isplitl [HX]; · iexact HX
    isplitl [HI]; · iexact HI
    isplitl [HO]; · iexact HO
    isplitl [HD]; · iexact HD
    iexact HW
  iintro ⟨HT, HX, Harr, Hs, Hr, HD, HW⟩
  dsimp only
  iapply (Entails.of_eq (wp_bind _ _ _ _ _ _).symm)
  unfold arrived
  icases Harr with ⟨Hi, Hd, Hc, Hoth⟩
  iapply (part4_run i n hi hn hF hw7 G _ _ _ _ _) $$ [HT Hi Hs Hr HG]
  · isplitl [HT]; · iexact HT
    isplitl [Hi]; · iexact Hi
    isplitl [Hs]; · iexact Hs
    isplitl [Hr]; · iexact Hr
    iexact HG
  iintro ⟨HT, Hi, HO, HG⟩
  iapply (wp_branch (R := iprop(debts (F := F) c ∗ oRing c H1 H2 D X (n - 3) (n + 1) ∗ done c H1 H2 D X (n - 3)))
    (R' := iprop(debts (F := F) c ∗ if n = 99 then iprop(oRing c H1 H2 D X 100 100 ∗ done c H1 H2 D X 100) else iprop(oRing c H1 H2 D X (n - 3) (n + 1) ∗ done c H1 H2 D X (n - 3)))) ?_ ?_) $$ [HW HO HD]
  · intro h
    have h9 : n = 99 := (cond6_iff i n hi hn).1 h
    subst h9
    rw [if_pos rfl, show 99 - 3 = 96 from rfl, show 99 + 1 = 100 from rfl, oRing_last, oRing_idle, done_last]
    unfold debts
    iintro ⟨⟨%W0, HW⟩, ⟨HF0, HF1, HF2, HF3⟩, HD⟩ Hk
    iapply (wp_sent (H1 := H1) (H2 := H2) (D := D) (X := X) (n := 99) (off29_eq i 99 hi rfl 0)) $$ [HF0 HW]
    · isplitl [HF0]; · iexact HF0
      iexact HW
    iintro ⟨⟨%W1, HW⟩, Ho0, Hs0, Hc0⟩
    iapply (wp_sent (H1 := H1) (H2 := H2) (D := D) (X := X) (n := 98) (off29_eq i 99 hi rfl 1)) $$ [HF1 HW]
    · isplitl [HF1]; · iexact HF1
      iexact HW
    iintro ⟨⟨%W2, HW⟩, Ho1, Hs1, Hc1⟩
    iapply (wp_sent (H1 := H1) (H2 := H2) (D := D) (X := X) (n := 97) (off29_eq i 99 hi rfl 2)) $$ [HF2 HW]
    · isplitl [HF2]; · iexact HF2
      iexact HW
    iintro ⟨⟨%W3, HW⟩, Ho2, Hs2, Hc2⟩
    iapply (wp_sent (H1 := H1) (H2 := H2) (D := D) (X := X) (n := 96) (off29_eq i 99 hi rfl 3)) $$ [HF3 HW]
    · isplitl [HF3]; · iexact HF3
      iexact HW
    iintro ⟨⟨%W4, HW⟩, Ho3, Hs3, Hc3⟩
    iapply Hk
    isplitl [HW]; · iexists _; iexact HW
    isplitl [Hs0 Hc0 Hs1 Hc1 Hs2 Hc2 Hs3 Hc3]
    · skip
      isplitl [Hs0 Hc0]
      · iapply (oFree_of (n := 99) (s := 3) rfl)
        isplitl [Hs0]; · iexact Hs0
        iexact Hc0
      isplitl [Hs1 Hc1]
      · iapply (oFree_of (n := 98) (s := 2) rfl)
        isplitl [Hs1]; · iexact Hs1
        iexact Hc1
      isplitl [Hs2 Hc2]
      · iapply (oFree_of (n := 97) (s := 1) rfl)
        isplitl [Hs2]; · iexact Hs2
        iexact Hc2
      iapply (oFree_of (n := 96) (s := 0) rfl)
      isplitl [Hs3]; · iexact Hs3
      iexact Hc3
    isplitl [Ho0]; · iexact Ho0
    isplitl [Ho1]; · iexact Ho1
    isplitl [Ho2]; · iexact Ho2
    isplitl [Ho3]; · iexact Ho3
    iexact HD
  · intro h
    rw [if_neg fun e => h ((cond6_iff i n hi hn).2 e)]
  · isplitl [HW]; · iexact HW
    isplitl [HO]; · iexact HO
    iexact HD
  iintro ⟨HW, HOD⟩
  rw [wp_pure]; imodintro
  iapply Hk
  isplitr [HX HW]
  · have ei : iprop(heldI c (islotRect n).set (ibufAt H1 H2 D n) ∗ heldD c Finset.univ (tok (n % 6)) D ∗ cellZ (F := F) c (icell n)
        ∗ others 6 (iFree c D) (iFly c H1 H2 D) n (min (n + 6) 100) n) ⊢ iRing c H1 H2 D (n + 1) (min (n + 6) 100) := by
      unfold iRing
      rw [ring_after_end (iFree c D) (iFly c H1 H2 D) (by decide) (by omega : min (n + 6) 100 ≤ n + 6)]
      unfold iFree
      rw [icell_congr (Nat.mod_mod n 6), islot_congr (Nat.mod_mod n 6)]
      iintro ⟨Hi, Hd, Hc, Hoth⟩
      isplitl [Hi Hd Hc]
      · isplitl [Hc]; · iexact Hc
        isplitl [Hi]; · iexists _; iexact Hi
        iexact Hd
      iexact Hoth
    ihave HI := ei $$ [Hi Hd Hc Hoth]
    · isplitl [Hi]; · iexact Hi
      isplitl [Hd]; · iexact Hd
      isplitl [Hc]; · iexact Hc
      iexact Hoth
    have eo : iprop(tables c H1 H2 ∗ iRing c H1 H2 D (n + 1) (min (n + 6) 100)
        ∗ (if n = 99 then iprop(oRing c H1 H2 D X 100 100 ∗ done c H1 H2 D X 100) else iprop(oRing c H1 H2 D X (n - 3) (n + 1) ∗ done c H1 H2 D X (n - 3))) ∗ fresh c G (n + 1))
          ⊢ inv c H1 H2 D X G (n + 1) := by
      unfold inv
      by_cases h : n = 99
      · subst h
        rw [if_pos rfl, if_pos rfl]
        iintro ⟨HT, HI, ⟨HO, HD⟩, HG⟩
        isplitl [HT]; · iexact HT
        isplitl [HI]; · iexact HI
        isplitl [HO]; · iexact HO
        isplitl [HD]; · iexact HD
        iexact HG
      · rw [if_neg h, if_neg (by omega), ahead, if_neg (by omega), show n + 1 - 4 = n - 3 by omega, show n + 1 + 5 = n + 6 from rfl]
        iintro ⟨HT, HI, ⟨HO, HD⟩, HG⟩
        isplitl [HT]; · iexact HT
        isplitl [HI]; · iexact HI
        isplitl [HO]; · iexact HO
        isplitl [HD]; · iexact HD
        iexact HG
    iapply eo
    isplitl [HT]; · iexact HT
    isplitl [HI]; · iexact HI
    isplitl [HOD]; · iexact HOD
    iexact HG
  isplitl [HX]; · iexact HX
  iexact HW

end Cert.Proof.CropIdeal

end
-- ==== Proof.PoolIdeal.lean ====
/-
  The buffers at the kernel's two ends: the scratch buffers cut into the rings' slots and joined again, the input's
  share dealt out to the slots, the output cut into its images and joined again.
-/
module

public import proofs.«01_k».proof.Proof.BackIdeal
@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

variable (c : Dev nD) (H1 H2 : S100.Idx → Elt F .i32) (D : S100x512x512.Idx → Elt F .f32) (X : S4x100.Idx → Elt F .f32)

/-! ## The cuts -/

theorem islot_disjoint : ∀ s ∈ Finset.range 6, ∀ s' ∈ Finset.range 6, s ≠ s' → Disjoint (islotRect s).set (islotRect s').set := by
  intro s hs s' hs' hne
  refine Finset.disjoint_left.2 fun y h h' => hne ?_
  have a := ((Rect.mem_set_unit).1 h) 0
  have a' := ((Rect.mem_set_unit).1 h') 0
  have e : s % 6 ≤ (y 0).val ∧ (y 0).val < s % 6 + 1 := a
  have e' : s' % 6 ≤ (y 0).val ∧ (y 0).val < s' % 6 + 1 := a'
  have := Finset.mem_range.1 hs; have := Finset.mem_range.1 hs'
  omega
theorem islot_cover : (Finset.range 6).biUnion (fun s => (islotRect s).set) = Finset.univ := by
  ext y
  simp only [Finset.mem_biUnion, Finset.mem_univ, iff_true]
  have h0 : (y 0).val < 6 := (y 0).isLt
  refine ⟨(y 0).val, Finset.mem_range.2 h0, (Rect.mem_set_unit).2 fun a => ?_⟩
  match a with
  | ⟨0, _⟩ => show (y 0).val % 6 ≤ (y 0).val ∧ (y 0).val < (y 0).val % 6 + 1; omega
  | ⟨1, _⟩ => exact ⟨Nat.zero_le _, by show (y 1).val < 0 + 256; have : (y 1).val < 256 := (y 1).isLt; omega⟩
  | ⟨2, _⟩ => exact ⟨Nat.zero_le _, by show (y 2).val < 0 + 384; have : (y 2).val < 384 := (y 2).isLt; omega⟩
theorem oslot_disjoint : ∀ s ∈ Finset.range 4, ∀ s' ∈ Finset.range 4, s ≠ s' → Disjoint (oslotRect s).set (oslotRect s').set := by
  intro s hs s' hs' hne
  refine Finset.disjoint_left.2 fun y h h' => hne ?_
  have a := ((Rect.mem_set_unit).1 h) 0
  have a' := ((Rect.mem_set_unit).1 h') 0
  have e : s % 4 ≤ (y 0).val ∧ (y 0).val < s % 4 + 1 := a
  have e' : s' % 4 ≤ (y 0).val ∧ (y 0).val < s' % 4 + 1 := a'
  have := Finset.mem_range.1 hs; have := Finset.mem_range.1 hs'
  omega
theorem oslot_cover : (Finset.range 4).biUnion (fun s => (oslotRect s).set) = Finset.univ := by
  ext y
  simp only [Finset.mem_biUnion, Finset.mem_univ, iff_true]
  have h0 : (y 0).val < 4 := (y 0).isLt
  refine ⟨(y 0).val, Finset.mem_range.2 h0, (Rect.mem_set_unit).2 fun a => ?_⟩
  match a with
  | ⟨0, _⟩ => show (y 0).val % 4 ≤ (y 0).val ∧ (y 0).val < (y 0).val % 4 + 1; omega
  | ⟨1, _⟩ => exact ⟨Nat.zero_le _, by show (y 1).val < 0 + 512; have : (y 1).val < 512 := (y 1).isLt; omega⟩
  | ⟨2, _⟩ => exact ⟨Nat.zero_le _, by show (y 2).val < 0 + 512; have : (y 2).val < 512 := (y 2).isLt; omega⟩
theorem img_disjoint : ∀ s ∈ Finset.range 100, ∀ s' ∈ Finset.range 100, s ≠ s' → Disjoint (imgRect s).set (imgRect s').set := by
  intro s hs s' hs' hne
  refine Finset.disjoint_left.2 fun y h h' => hne ?_
  have a := ((Rect.mem_set_unit).1 h) 0
  have a' := ((Rect.mem_set_unit).1 h') 0
  have e : min s 99 ≤ (y 0).val ∧ (y 0).val < min s 99 + 1 := a
  have e' : min s' 99 ≤ (y 0).val ∧ (y 0).val < min s' 99 + 1 := a'
  have := Finset.mem_range.1 hs; have := Finset.mem_range.1 hs'
  omega
theorem img_cover : (Finset.range 100).biUnion (fun s => (imgRect s).set) = Finset.univ := by
  ext y
  simp only [Finset.mem_biUnion, Finset.mem_univ, iff_true]
  have h0 : (y 0).val < 100 := (y 0).isLt
  refine ⟨(y 0).val, Finset.mem_range.2 h0, (Rect.mem_set_unit).2 fun a => ?_⟩
  match a with
  | ⟨0, _⟩ => show min (y 0).val 99 ≤ (y 0).val ∧ (y 0).val < min (y 0).val 99 + 1; omega
  | ⟨1, _⟩ => exact ⟨Nat.zero_le _, by show (y 1).val < 0 + 512; have : (y 1).val < 512 := (y 1).isLt; omega⟩
  | ⟨2, _⟩ => exact ⟨Nat.zero_le _, by show (y 2).val < 0 + 512; have : (y 2).val < 512 := (y 2).isLt; omega⟩

theorem iheld_cut (f : S6x256x384.Idx → Elt F .f32) : heldI c Finset.univ f = bigSep (Finset.range 6) fun s => heldI c (islotRect s).set f :=
  (congrArg (fun S => heldI c S f) islot_cover.symm).trans (pointsTo_biUnion (ℓ := (c : Thread nD τ).loc cc0_scratch0) _ _ islot_disjoint)
theorem sheld_cut (f : S4x512x512.Idx → Elt F .f32) : heldS c Finset.univ f = bigSep (Finset.range 4) fun s => heldS c (oslotRect s).set f :=
  (congrArg (fun S => heldS c S f) oslot_cover.symm).trans (pointsTo_biUnion (ℓ := (c : Thread nD τ).loc cc0_scratch1) _ _ oslot_disjoint)
theorem oheld_cut (f : S100x512x512.Idx → Elt F .f32) : heldO c Finset.univ f = bigSep (Finset.range 100) fun s => heldO c (imgRect s).set f :=
  (congrArg (fun S => heldO c S f) img_cover.symm).trans (pointsTo_biUnion (ℓ := (c : Thread nD τ).loc main_v14) _ _ img_disjoint)

/-! ## The rings idle -/

/-- The input ring idle is its cells, the buffer and the slots' shares of the input. -/
theorem iRing_of (a : ℕ) (f : S6x256x384.Idx → Elt F .f32) :
    iprop((bigSep (Finset.range 6) fun s => cellZ (F := F) c (icell s)) ∗ heldI c Finset.univ f ∗ (bigSep (Finset.range 6) fun s => heldD c Finset.univ (tok s) D))
      ⊢ iRing c H1 H2 D a a := by
  unfold iRing
  rw [ring_idle _ _ (by decide), iheld_cut, ← bigSep_sep', ← bigSep_sep']
  refine bigSep_mono fun s _ => ?_
  unfold iFree
  show (iprop(_ ∗ _ ∗ _) : sProp 𝕄) ⊢ _
  iintro ⟨Hc, Hi, Hd⟩
  isplitl [Hc]; · iexact Hc
  isplitl [Hi]; · iexists f; iexact Hi
  iexact Hd
theorem of_iRing (a : ℕ) : iRing c H1 H2 D a a
    ⊢ iprop((bigSep (Finset.range 6) fun s => cellZ (F := F) c (icell s)) ∗ (∃ f, heldI (F := F) c Finset.univ f) ∗ (bigSep (Finset.range 6) fun s => heldD c Finset.univ (tok s) D)) := by
  have : Nonempty (S6x256x384.Idx → Elt F .f32) := ⟨fun _ => zero⟩
  unfold iRing iFree
  rw [ring_idle _ _ (by decide), bigSep_sep', bigSep_sep']
  iintro ⟨Hc, Hi, Hd⟩
  isplitl [Hc]; · iexact Hc
  isplitl [Hi]
  · ihave Hi := (bigSep_exists_pi (Finset.range 6) fun s (f : S6x256x384.Idx → Elt F .f32) => heldI (F := F) c (islotRect s).set f) $$ Hi
    icases Hi with ⟨%fs, Hi⟩
    ihave Hi := (pointsTo_biUnion_join (ℓ := (c : Thread nD τ).loc cc0_scratch0) (Finset.range 6) (fun s => (islotRect s).set) fs (fun _ => zero) islot_disjoint) $$ Hi
    icases Hi with ⟨%g, -, Hi⟩
    iexists g
    ihave Hi := (Entails.of_eq (congrArg (fun S => heldI (F := F) c S g) islot_cover)) $$ Hi
    iexact Hi
  iexact Hd

/-- The output ring idle is its cells and the buffer. -/
theorem oRing_of (a : ℕ) (f : S4x512x512.Idx → Elt F .f32) :
    iprop((bigSep (Finset.range 4) fun s => cellZ (F := F) c (ocell s)) ∗ heldS c Finset.univ f) ⊢ oRing c H1 H2 D X a a := by
  unfold oRing
  rw [ring_idle _ _ (by decide), sheld_cut, ← bigSep_sep']
  refine bigSep_mono fun s _ => ?_
  unfold oFree
  show (iprop(_ ∗ _) : sProp 𝕄) ⊢ _
  iintro ⟨Hc, Hi⟩
  isplitl [Hc]; · iexact Hc
  iexists f; iexact Hi
theorem of_oRing (a : ℕ) : oRing c H1 H2 D X a a
    ⊢ iprop((bigSep (Finset.range 4) fun s => cellZ (F := F) c (ocell s)) ∗ ∃ f, heldS (F := F) c Finset.univ f) := by
  have : Nonempty (S4x512x512.Idx → Elt F .f32) := ⟨fun _ => zero⟩
  unfold oRing oFree
  rw [ring_idle _ _ (by decide), bigSep_sep']
  iintro ⟨Hc, Hi⟩
  isplitl [Hc]; · iexact Hc
  ihave Hi := (bigSep_exists_pi (Finset.range 4) fun s (f : S4x512x512.Idx → Elt F .f32) => heldS (F := F) c (oslotRect s).set f) $$ Hi
  icases Hi with ⟨%fs, Hi⟩
  ihave Hi := (pointsTo_biUnion_join (ℓ := (c : Thread nD τ).loc cc0_scratch1) (Finset.range 4) (fun s => (oslotRect s).set) fs (fun _ => zero) oslot_disjoint) $$ Hi
  icases Hi with ⟨%g, -, Hi⟩
  iexists g
  ihave Hi := (Entails.of_eq (congrArg (fun S => heldS (F := F) c S g) oslot_cover)) $$ Hi
  iexact Hi

/-! ## The output's images -/

theorem fresh_all (G : S100x512x512.Idx → Elt F .f32) : heldO c Finset.univ G = fresh c G 0 := by
  unfold fresh; rw [oheld_cut, Finset.range_eq_Ico]
theorem done_all : done c H1 H2 D X 100 = heldO c Finset.univ (result H1 H2 D X) := by
  unfold done; rw [oheld_cut]

/-! ## The invariant's ends -/

theorem inv_zero (G : S100x512x512.Idx → Elt F .f32) : inv c H1 H2 D X G 0
    = iprop(tables c H1 H2 ∗ iRing c H1 H2 D 0 0 ∗ oRing c H1 H2 D X 0 0 ∗ done c H1 H2 D X 0 ∗ fresh c G 0) := by
  unfold inv; rw [if_neg (by decide)]; rfl
theorem inv_last (G : S100x512x512.Idx → Elt F .f32) : inv c H1 H2 D X G 100
    = iprop(tables c H1 H2 ∗ iRing c H1 H2 D 100 100 ∗ oRing c H1 H2 D X 100 100 ∗ done c H1 H2 D X 100 ∗ fresh c G 100) := by
  unfold inv; rw [if_pos rfl]

end Cert.Proof.CropIdeal

end
-- ==== Proof.LaunchIdeal.lean ====
/-
  The launch: what the host leaves before the kernel, the pipeline's proof data, and one step of the grid as the
  pipeline's body obligation.
-/
module

public import proofs.«01_k».proof.Proof.PoolIdeal
public import Idealize.ShloMosaic.Lib.Pipeline.FrameBody
@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

open Idealize.ShloMosaic.Pipeline (Dat BodyObligation)

/-! ## The kernel's own semaphores -/

/-- The kernel's ten cells: the six of the input ring, the four of the output ring. -/
abbrev osem0 : Fin 10 → SemLoc sig := fun j =>
  (![.dma 1, .dma 2, .dma 3, .dma 4, .dma 5, .dma 6, .dma 7, .dma 8, .dma 9, .dma 10] : Fin 10 → SemLoc sig) j
theorem ownSemFacts0 : Pipeline.OwnSemFacts spec0 osem0 := by decide

theorem range_six : (Finset.range 6) = [0, 1, 2, 3, 4, 5].toFinset := by decide
theorem range_four' : (Finset.range 4) = [0, 1, 2, 3].toFinset := by decide

theorem ownSems_cut (c : Dev nD) :
    (Pipeline.ownSems0 (Ix := Unit) (Name := ℕ) (U := UD sig nD τ) (Lvl := ℕ) (Val := Elt F) (τ := τ) osem0 c : sProp 𝕄)
      ⊣⊢ iprop((bigSep (Finset.range 6) fun s => cellZ (F := F) c (icell s)) ∗ (bigSep (Finset.range 4) fun s => cellZ (F := F) c (ocell s))) := by
  rw [Pipeline.ownSems0_eq_of_list c osem0 [0, 1, 2, 3, 4, 5, 6, 7, 8, 9] (by decide) (by decide),
    bigSep_eq_bigSepL_of_eq [0, 1, 2, 3, 4, 5] range_six (by decide), bigSep_eq_bigSepL_of_eq [0, 1, 2, 3] range_four' (by decide)]
  constructor
  · show (iprop(cellZ (F := F) c (1 : DmaSem sig) ∗ cellZ (F := F) c (2 : DmaSem sig) ∗ cellZ (F := F) c (3 : DmaSem sig) ∗ cellZ (F := F) c (4 : DmaSem sig) ∗ cellZ (F := F) c (5 : DmaSem sig) ∗ cellZ (F := F) c (6 : DmaSem sig) ∗ cellZ (F := F) c (7 : DmaSem sig) ∗ cellZ (F := F) c (8 : DmaSem sig) ∗ cellZ (F := F) c (9 : DmaSem sig) ∗ cellZ (F := F) c (10 : DmaSem sig)) : sProp 𝕄)
      ⊢ iprop((cellZ (F := F) c (1 : DmaSem sig) ∗ cellZ (F := F) c (2 : DmaSem sig) ∗ cellZ (F := F) c (3 : DmaSem sig) ∗ cellZ (F := F) c (4 : DmaSem sig) ∗ cellZ (F := F) c (5 : DmaSem sig) ∗ cellZ (F := F) c (6 : DmaSem sig))
        ∗ (cellZ (F := F) c (7 : DmaSem sig) ∗ cellZ (F := F) c (8 : DmaSem sig) ∗ cellZ (F := F) c (9 : DmaSem sig) ∗ cellZ (F := F) c (10 : DmaSem sig)))
    iintro ⟨H0, H1, H2, H3, H4, H5, H6, H7, H8, H9⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    iexact H9
  · show (iprop((cellZ (F := F) c (1 : DmaSem sig) ∗ cellZ (F := F) c (2 : DmaSem sig) ∗ cellZ (F := F) c (3 : DmaSem sig) ∗ cellZ (F := F) c (4 : DmaSem sig) ∗ cellZ (F := F) c (5 : DmaSem sig) ∗ cellZ (F := F) c (6 : DmaSem sig))
        ∗ (cellZ (F := F) c (7 : DmaSem sig) ∗ cellZ (F := F) c (8 : DmaSem sig) ∗ cellZ (F := F) c (9 : DmaSem sig) ∗ cellZ (F := F) c (10 : DmaSem sig))) : sProp 𝕄)
      ⊢ iprop(cellZ (F := F) c (1 : DmaSem sig) ∗ cellZ (F := F) c (2 : DmaSem sig) ∗ cellZ (F := F) c (3 : DmaSem sig) ∗ cellZ (F := F) c (4 : DmaSem sig) ∗ cellZ (F := F) c (5 : DmaSem sig) ∗ cellZ (F := F) c (6 : DmaSem sig) ∗ cellZ (F := F) c (7 : DmaSem sig) ∗ cellZ (F := F) c (8 : DmaSem sig) ∗ cellZ (F := F) c (9 : DmaSem sig) ∗ cellZ (F := F) c (10 : DmaSem sig))
    iintro ⟨⟨H0, H1, H2, H3, H4, H5⟩, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## What the host leaves -/

variable (m : (ℓ : Loc nD τ sig) → Buf (Elt F) ℓ)

/-- The host's lines before the kernel. -/
abbrev lines : List (List (HloOp τ sig (Elt F))) := [hostOps0, hostOps0_1, hostOps0_2, hostOps0_3, hostOps0_4]
/-- The core's buffers after them. -/
def V (c : Dev nD) : Valuation τ sig (Elt F) := StableHlo.after (lines (F := F)).flatten (fun b => m (c, b))

/-- The two tables, the transposed data, the transposed boxes and the output as the kernel finds them. -/
abbrev tab1 (c : Dev nD) : S100.Idx → Elt F .i32 := V m c (Proc.devRef .tc main_v10)
abbrev tab2 (c : Dev nD) : S100.Idx → Elt F .i32 := V m c (Proc.devRef .tc main_v13)
abbrev dataT (c : Dev nD) : S100x512x512.Idx → Elt F .f32 := V m c (Proc.devRef .tc main_v0)
abbrev boxT (c : Dev nD) : S4x100.Idx → Elt F .f32 := V m c (Proc.devRef .tc main_v1)
abbrev outT (c : Dev nD) : S100x512x512.Idx → Elt F .f32 := V m c (Proc.devRef .tc main_v14)

/-- The tables' contents the pipeline is pinned at. -/
def adm : (p : Fin 1) → (pcfgs (F := F) p).Adm := fun p => ⟨fun k => V m 0 (Proc.devRef .tc ((pcfgs (F := F) p).pre.ref k)), (trivial : ok0 _)⟩

abbrev cfgA (m : (ℓ : Loc nD τ sig) → Buf (Elt F) ℓ) := Pipeline.pin (pcfgs (F := F)) (adm m) 0

/-! ## The pipeline's proof data -/

/-- The boxes stay in their buffer; between steps the kernel's invariant, beside the share of the input no slot takes. -/
def dats (_ : Fin 1) (c : Dev nD) : Dat τ (Elt F) Unit ℕ (UD sig nD τ) ℕ (cfgA m) c where
  A w := V m c (Proc.devRef .tc (Pipeline.arrRef spec0 w))
  after w t := match w with
    | ⟨0, _⟩ => boxT m c
  Φ t := iprop(inv c (tab1 m c) (tab2 m c) (dataT m c) (boxT m c) (outT m c) t.val ∗ heldD c Finset.univ (Transfers.shareDrop fullShare 6) (dataT m c))
  q _ := fullShare
  owed _ := 0

theorem A_eq (c : Dev nD) (w : Fin (cfgA m).W) : (dats m 0 c).A w = V m c (Proc.devRef .tc (Pipeline.arrRef spec0 w)) := by
  dsimp only [dats]
theorem after_w0 (c : Dev nD) (t : Fin (cfgA m).N) : (dats m 0 c).after 0 t = boxT m c := rfl

/-- The boxes' one block is the whole table. -/
theorem blockOf_w0 (c : Dev nD) (t : Fin (cfgA m).N) : (dats m 0 c).blockOf 0 t = boxT m c := by
  unfold Dat.blockOf
  rw [A_eq]
  funext j
  show boxT m c _ = boxT m c j
  refine congrArg _ (funext fun a => Fin.ext ?_)
  match a with
  | ⟨0, _⟩ => show 0 * 4 + 1 * (j ⟨0, by show 0 < 2; decide⟩).val = (j ⟨0, by show 0 < 2; decide⟩).val; omega
  | ⟨1, _⟩ => show 0 * 100 + 1 * (j ⟨1, by show 1 < 2; decide⟩).val = (j ⟨1, by show 1 < 2; decide⟩).val; omega

theorem before_w0 (c : Dev nD) (t : Fin (cfgA m).N) (d) : (dats m 0 c).before 0 t d = boxT m c := by
  rw [(dats m 0 c).before_in_eq_fetched 0 rfl (fun _ => rfl) (fun _ _ _ => rfl)
    (fun t => (show _ = (dats m 0 c).after 0 t from rfl).trans ((after_w0 m c t).trans (blockOf_w0 m c t).symm)) t d]
  exact (show (dats m 0 c).fetched 0 t d = (dats m 0 c).blockOf 0 t from rfl).trans (blockOf_w0 m c t)

/-! ## One step of the grid -/

/-- The kernel at a grid point, on the boxes' staging buffer. -/
def kern (i : grid0.Coords) (s : Fin (spec0 0).nbuf) : Prog (TpuEff nD τ sig (Elt F) Λ₀ .tc) PUnit :=
  cc0__crop_kernel (F := F) i hsM (Memref.isWhole_whole _) wsM (Memref.isWhole_whole _) (spec0_0.stage s) (hstage0_0 (s.cast nbuf0_0))
    dataM (Memref.isWhole_whole _) outM (Memref.isWhole_whole _) ibufM (Memref.isWhole_whole _) obufM (Memref.isWhole_whole _) cc0_scratch2 cc0_scratch3

theorem defs_tc : (defs₀ (F := F)) .tc (cfgA m).body = fun a => kern (F := F) (grid0.coords a.1) (a.2 0) := rfl
theorem prog_eq (t : Fin (cfgA m).N) :
    (defs₀ (F := F)) .tc (cfgA m).body ((cfgA m).bodyArgs t ((cfgA m).slots t)) = kern (F := F) (grid0.coords t) ((cfgA m).slots t 0) :=
  (congrFun (defs_tc m) _).trans rfl

/-- The grid's point `t` is image `t`. -/
theorem coords_val : ∀ t : Fin grid0.N, ((grid0.coords t) 0).val = t.val := by decide +kernel

/-- A step at whichever staging buffer the pipeline names (there is one). -/
theorem kern_run {c : Dev nD} {H1 H2 : S100.Idx → Elt F .i32} {D : S100x512x512.Idx → Elt F .f32} {X : S4x100.Idx → Elt F .f32}
    (i : grid0.Coords) (n : ℕ) (hi : (i 0).val = n) (hn : n < 100) (s : Fin (spec0 0).nbuf) (hF : Fit H1 H2) (G : S100x512x512.Idx → Elt F .f32) (Q : PUnit → sProp 𝕄) :
    iprop(inv c H1 H2 D X G n ∗ owns (c : Thread nD τ) (spec0_0.stage s) fullShare X ∗ debts (F := F) c)
      ⊢ iprop((inv c H1 H2 D X G (n + 1) ∗ owns (c : Thread nD τ) (spec0_0.stage s) fullShare X ∗ debts (F := F) c -∗ Q ⟨⟩)
        -∗ wp frame (wpE (defs₀ (F := F)) 𝒱₀ (c : Thread nD τ) none) Set.univ (kern (F := F) i s) Q) := by
  match s with
  | ⟨0, _⟩ =>
    have e : owns (c : Thread nD τ) (spec0_0.stage (0 : Fin 1)) fullShare X = boxes (F := F) c X := owns_whole _ _ _ _
    show iprop(_ ∗ owns (c : Thread nD τ) (spec0_0.stage (0 : Fin 1)) fullShare X ∗ _) ⊢ iprop((_ ∗ owns (c : Thread nD τ) (spec0_0.stage (0 : Fin 1)) fullShare X ∗ _ -∗ _) -∗ _)
    rw [e]
    exact step_run i n hi hn hF G Q

set_option backward.isDefEq.respectTransparency.types false in
/-- One step of the grid, as the pipeline runs it. -/
theorem body_obligation (c : Dev nD) (hF : Fit (tab1 m c) (tab2 m c)) :
    BodyObligation (dats (F := F) m 0 c) (defs₀ (F := F)) 𝒱₀ () Set.univ := fun t => by
  rw [bigSep_W0, bigSep_W0]
  dsimp only
  simp only [before_w0, after_w0]
  rw [show (dats (F := F) m 0 c).Φ t.castSucc = iprop(inv c (tab1 m c) (tab2 m c) (dataT m c) (boxT m c) (outT m c) t.val ∗ heldD c Finset.univ (Transfers.shareDrop fullShare 6) (dataT m c)) from rfl,
    show (dats (F := F) m 0 c).Φ t.succ = iprop(inv c (tab1 m c) (tab2 m c) (dataT m c) (boxT m c) (outT m c) (t.val + 1) ∗ heldD c Finset.univ (Transfers.shareDrop fullShare 6) (dataT m c)) from rfl]
  unfold Dat.owesAt Pipeline.owesWithin
  rw [show (dats m 0 c).owed t.castSucc = 0 from rfl, show (dats m 0 c).owed t.succ = 0 from rfl]
  iintro ⟨⟨HI, HD⟩, ⟨%W, -, HW⟩, ⟨%d0, HX⟩⟩
  sl_rw [prog_eq m t]
  iapply (kern_run (grid0.coords t) t.val (coords_val t) (lt_of_lt_of_eq t.isLt N_0) ((cfgA m).slots t 0) hF (outT m c) _) $$ [HI HX HW]
  · isplitl [HI]; · iexact HI
    isplitl [HX]; · iexact HX
    unfold debts; iexists W; iexact HW
  iintro ⟨HI, HX, HW⟩
  isplitl [HI HD]
  · isplitl [HI]; · iexact HI
    iexact HD
  unfold debts
  icases HW with ⟨%W', HW⟩
  isplitl [HW]
  · iexists W'; isplitr; · ipureintro; exact fun _ _ => Or.inl trivial
    iexact HW
  iexact HX

end Cert.Proof.CropIdeal

end
-- ==== Proof.RunIdeal.lean ====
/-
  The run: the launch deals the buffers to the kernel's invariant and takes them back, and the host's last line
  transposes what the kernel wrote.
-/
module

public import proofs.«01_k».proof.Proof.LaunchIdeal
public import Idealize.ShloMosaic.Lib.Pipeline.FrameSuffixV
@[expose] public section

noncomputable section

namespace Cert.Proof.CropIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.Proof.Turns

variable {F : FTy → Type} [FloatOps F]

local notation "𝕄" => MT nD τ sig Unit (Elt F) ℕ (UD sig nD τ) ℕ

open Idealize.ShloMosaic.Pipeline (Dat BodyObligation)

variable (m : (ℓ : Loc nD τ sig) → Buf (Elt F) ℓ)

/-! ## The buffers the kernel reads and writes by its own transfers -/

abbrev H0 : Finset (Ref sig .tc) := {main_v0}
abbrev R0 : Finset (Ref sig .tc) := {main_v14}
theorem H0_sub : H0 ⊆ Pipeline.restRefsP sig pre0 spec0 := by decide
theorem R0_sub : R0 ⊆ Pipeline.restRefsP sig pre0 spec0 \ H0 := by decide

/-- What the kernel leaves in the output. -/
abbrev written (c : Dev nD) : S100x512x512.Idx → Elt F .f32 := result (tab1 m c) (tab2 m c) (dataT m c) (boxT m c)

/-- The contents at the region's end of the buffers it writes. -/
def G (c : Dev nD) (b : Ref sig .tc) : Buf (Elt F) ((c.tc : Thread nD τ).loc b) :=
  if h : b = main_v14 then h ▸ written m c else V m c (Proc.devRef .tc b)
theorem G_out (c : Dev nD) : G m c main_v14 = written m c := by unfold G; rw [dif_pos rfl]

/-! ## Into the invariant and out of it -/

theorem tables_cut (c : Dev nD) (v : pre0.Contents (Elt F)) :
    (Pipeline.prefHeld (Ix := Unit) (Name := ℕ) (U := UD sig nD τ) (Lvl := ℕ) (τ := τ) pre0 c (fun _ => fullShare.right) v : sProp 𝕄)
      = tables c (v 0) (v 1) := by
  unfold Pipeline.prefHeld tables
  exact bigSep_univ_eq_bigSepL [(0 : Fin 2), 1] (by decide) (by decide) _

theorem tables_of (c : Dev nD) :
    (Pipeline.prefHeld (Ix := Unit) (Name := ℕ) (U := UD sig nD τ) (Lvl := ℕ) (τ := τ) pre0 c (fun _ => fullShare.right) (adm (F := F) m 0).1 : sProp 𝕄)
      ⊢ tables c (tab1 m c) (tab2 m c) := by
  have e0 : (adm (F := F) m 0).1 (0 : Fin 2) = tab1 m c := by
    have e : c = 0 := Subsingleton.elim _ _
    subst e
    rfl
  have e1 : (adm (F := F) m 0).1 (1 : Fin 2) = tab2 m c := by
    have e : c = 0 := Subsingleton.elim _ _
    subst e
    rfl
  refine Entails.of_eq ((tables_cut c _).trans ?_)
  rw [e0, e1]

theorem entered (c : Dev nD) :
    iprop(Pipeline.ΦDRV osem0 spec0 H0 R0 (fun c b => V m c (Proc.devRef .tc b)) (fun c b => V m c (Proc.devRef .tc b)) c
        ∗ Pipeline.prefHeld (Ix := Unit) (Name := ℕ) (U := UD sig nD τ) (Lvl := ℕ) (τ := τ) pre0 c (fun _ => fullShare.right) (adm (F := F) m 0).1)
      ⊢ (dats (F := F) m 0 c).Φ 0 := by
  rw [show (dats (F := F) m 0 c).Φ 0 = iprop(inv c (tab1 m c) (tab2 m c) (dataT m c) (boxT m c) (outT m c) 0 ∗ heldD c Finset.univ (Transfers.shareDrop fullShare 6) (dataT m c)) from rfl, inv_zero]
  unfold Pipeline.ΦDRV
  rw [scopedRest0_eq, bigSep_singleton, bigSep_singleton, show done c (tab1 m c) (tab2 m c) (dataT m c) (boxT m c) 0 = (BI.emp : sProp 𝕄) from by unfold done; rw [Finset.range_zero, bigSep_empty], ← fresh_all]
  iintro ⟨⟨⟨⟨%fi, Hi⟩, %fs, Hs⟩, Hc, Hd, Ho⟩, Ht⟩
  ihave Hc := (ownSems_cut (F := F) c).1 $$ Hc
  icases Hc with ⟨Hci, Hco⟩
  ihave Hd := (Transfers.pointsTo_toks_range (ℓ := (c : Thread nD τ).loc main_v0) (S := Finset.univ) (f := dataT m c) fullShare 6).1 $$ Hd
  icases Hd with ⟨Hd, Hdt⟩
  isplitr [Hd]
  · isplitl [Ht]; · iapply (tables_of m c); iexact Ht
    isplitl [Hci Hi Hdt]
    · iapply (iRing_of (H1 := tab1 m c) (H2 := tab2 m c) (c := c) (D := dataT m c) 0 fi)
      isplitl [Hci]; · iexact Hci
      isplitl [Hi]; · iexact Hi
      iexact Hdt
    isplitl [Hco Hs]
    · iapply (oRing_of (H1 := tab1 m c) (H2 := tab2 m c) (c := c) (D := dataT m c) (X := boxT m c) 0 fs)
      isplitl [Hco]; · iexact Hco
      iexact Hs
    isplitr [Ho]; · iempintro
    iexact Ho
  iexact Hd

theorem left (c : Dev nD) :
    (dats (F := F) m 0 c).Φ (Fin.last (cfgA m).N)
      ⊢ Pipeline.ΦDRV osem0 spec0 H0 R0 (fun c b => V m c (Proc.devRef .tc b)) (G m) c := by
  rw [show (dats (F := F) m 0 c).Φ (Fin.last (cfgA m).N) = iprop(inv c (tab1 m c) (tab2 m c) (dataT m c) (boxT m c) (outT m c) grid0.N ∗ heldD c Finset.univ (Transfers.shareDrop fullShare 6) (dataT m c)) from rfl, N_0, inv_last, done_all]
  unfold Pipeline.ΦDRV
  rw [scopedRest0_eq, bigSep_singleton, bigSep_singleton, G_out]
  iintro ⟨⟨-, Hi, Hs, Ho, -⟩, Hd⟩
  ihave Hi := (of_iRing (H1 := tab1 m c) (H2 := tab2 m c) (c := c) (D := dataT m c) 100) $$ Hi
  icases Hi with ⟨Hci, ⟨%fi, Hi⟩, Hdt⟩
  ihave Hs := (of_oRing (H1 := tab1 m c) (H2 := tab2 m c) (c := c) (D := dataT m c) (X := boxT m c) 100) $$ Hs
  icases Hs with ⟨Hco, %fs, Hs⟩
  isplitl [Hi Hs]
  · isplitl [Hi]; · iexists fi; iexact Hi
    iexists fs; iexact Hs
  isplitl [Hci Hco]
  · iapply (ownSems_cut (F := F) c).2
    isplitl [Hci]; · iexact Hci
    iexact Hco
  isplitl [Hd Hdt]
  · iapply (Transfers.pointsTo_toks_range (ℓ := (c : Thread nD τ).loc main_v0) (S := Finset.univ) (f := dataT m c) fullShare 6).2
    isplitl [Hd]; · iexact Hd
    iexact Hdt
  iexact Ho

/-! ## The run -/

theorem lines_sub : (lines (F := F)).Forall fun ops => ops.Forall fun op => op.bufs ⊆ StableHlo.tcRefs τ sig :=
  ⟨hostOps0_sub, hostOps0_1_sub, hostOps0_2_sub, hostOps0_3_sub, hostOps0_4_sub⟩
theorem lines_fresh : (lines (F := F)).Forall fun ops => ops.Forall fun op => op.fresh = ∅ := by
  repeat' constructor

theorem tail_sub : ∀ ops ∈ [hostOps1 (F := F)], ∀ op ∈ ops, op.bufs ⊆ Pipeline.tailRefs sig pre0 spec0 := by
  intro ops ho op h
  obtain rfl := List.mem_singleton.mp ho
  obtain rfl := List.mem_singleton.mp h
  refine Pipeline.sub_tailRefs pre0 spec0 _ (StableHlo.unary_bufs_sub ..) ?_
  intro k
  show _ ∉ ({_, _} : Finset (DevRef τ sig))
  revert k; decide

theorem tail_fresh : ∀ ops ∈ [hostOps1 (F := F)], ∀ op ∈ ops, op.fresh = ∅ := by
  intro ops ho op h
  obtain rfl := List.mem_singleton.mp ho
  obtain rfl := List.mem_singleton.mp h
  rfl
theorem tail_keep : ∀ ops ∈ [hostOps1 (F := F)], ∀ op ∈ ops, ∀ w, Proc.devRef (τ := τ) .tc (Pipeline.arrRef spec0 w) ∉ op.writes := by
  intro ops ho op h
  obtain rfl := List.mem_singleton.mp ho
  obtain rfl := List.mem_singleton.mp h
  intro w
  show _ ∉ ({_} : Finset (DevRef τ sig))
  revert w; decide

/-- What a run ends at: the boxes' array as launched, and every other buffer of @main as the last line leaves it. -/
def Ends (r : PUnit × MemSt nD τ sig (Elt F)) : Prop :=
  (∀ c : Dev nD, ∀ b ∈ Pipeline.restRefsP sig pre0 spec0, r.2.mem ((c.tc : Thread nD τ).loc b)
      = StableHlo.after (hostOps1 (F := F)) (Pipeline.withArrays spec0 c (Pipeline.withR (V m c) R0 c (G m c)) fun w => (dats m 0 c).arrAt w (cfgA m).N) (Proc.devRef .tc b))
  ∧ r.2.sem = fun _ => 0

set_option backward.isDefEq.respectTransparency.types false in
theorem run_main (ρ : Dev nD → PrngReg) (hF : ∀ c, Fit (tab1 m c) (tab2 m c)) :
    θ_run defs (onTc (τ := τ) (main (F := F))) ⟨m, fun _ => 0, ρ⟩ (Ends m) :=
  Pipeline.θ_run_frameP_dmaR_aroundV (pcfgs (F := F)) (adm m) (dats m) (0 : Fin 1) launch0 osem0 defs₀ 𝒱₀ ownSemFacts0 H0 R0 H0_sub R0_sub m ρ main
    (hbody := fun c => (body_obligation m c (hF c)).loose) (hshare := fun c => (dats m 0 c).share_full fun _ => rfl)
    (howed := fun _ _ => rfl) (V₀ := V m) (opss := [hostOps1]) (hsub := tail_sub) (hfresh := tail_fresh) (hkeep := tail_keep) (G := G m)
    (hmain := Pipeline.hmainP_around (pcfgs (F := F)) 0 defs₀ 𝒱₀ m main lines [hostOps1] lines_sub lines_fresh main_chain)
    (hA := A_eq m) (hpf := fun c k => by obtain rfl : c = 0 := Subsingleton.elim _ _; rfl)
    (hin := entered m) (hout := left m)
    (Q' := Ends m) (hQ' := fun r h => ⟨fun c b hb => (h.1 c).2 b hb, h.2⟩)

end Cert.Proof.CropIdeal

end
-- ==== Proof.HostIdeal.lean ====
/-
  The host's lines: what they leave in the tables, the transposed arrays and the result.
-/
module

public import proofs.«01_k».proof.Proof.RunIdeal
public import proofs.«01_k».proof.Proof.Words
public import proofs.«01_k».proof.Pre_boxes_start
public import Idealize.ShloMosaic.Lib.StableHlo.ReadAt
@[expose] public section

noncomputable section

namespace Cert.Proof.CropIdeal

open Cert.KernelIdeal Cert.KernelIdeal.Gen
open Idealize.ShloMosaic
open Idealize.ShloMosaic.TcCoe Idealize.ShloMosaic.Tactic
open Idealize.SL.Sem
open Cert.Proof.Words

variable {F : FTy → Type} [FloatOps F]
variable (m : (ℓ : Loc nD τ sig) → Buf (Elt F) ℓ)

/-- The boxes as launched. -/
abbrev boxesIn (c : Dev nD) : S100x4.Idx → Elt F .f32 := m (c, Proc.devRef .tc main_arg1)
/-- and the data. -/
abbrev dataIn (c : Dev nD) : S512x512x100.Idx → Elt F .f32 := m (c, Proc.devRef .tc main_arg0)

/-! ## Before the kernel -/

theorem V_arg0 (c : Dev nD) : V m c (Proc.devRef .tc main_arg0) = m (c, Proc.devRef .tc main_arg0) := by
  unfold V; after_reads_simp
theorem V_arg1 (c : Dev nD) : V m c (Proc.devRef .tc main_arg1) = m (c, Proc.devRef .tc main_arg1) := by
  unfold V; after_reads_simp
theorem dataT_at (c : Dev nD) (n : Fin 100) (h w : Fin 512) : dataT m c (ix3 n h w) = dataIn m c (ix3 h w n) := by
  show V m c (Proc.devRef .tc main_v0) _ = _
  unfold V; after_reads_at
theorem boxT_at (c : Dev nD) (k : Fin 4) (n : Fin 100) : boxT m c (ix2 k n) = boxesIn m c (ix2 n k) := by
  show V m c (Proc.devRef .tc main_v1) _ = _
  unfold V; after_reads_at

/-- The first table: the boxes' first rows, in eights, at most 32. -/
theorem tab1_at (c : Dev nD) (n : Fin 100) :
    tab1 m c (ix1 n) = IntOp.minsi (floorDiv (FloatOps.fptosi 32 (boxesIn m c (ix2 n 1))) 8#32) 32#32 := by
  show V m c (Proc.devRef .tc main_v10) _ = _
  unfold V; after_reads_at; rfl
/-- The second: their first columns, in 128s, at most 1. -/
theorem tab2_at (c : Dev nD) (n : Fin 100) :
    tab2 m c (ix1 n) = IntOp.minsi (floorDiv (FloatOps.fptosi 32 (boxesIn m c (ix2 n 0))) 128#32) 1#32 := by
  show V m c (Proc.devRef .tc main_v13) _ = _
  unfold V; after_reads_at; rfl

/-- Boxes that start at no negative row or column. -/
def Starts (c : Dev nD) : Prop :=
  ∀ n : Fin 100, 0 ≤ (FloatOps.fptosi 32 (boxesIn m c (ix2 n 0)) : BitVec 32).toInt ∧ 0 ≤ (FloatOps.fptosi 32 (boxesIn m c (ix2 n 1)) : BitVec 32).toInt

theorem tab1_toNat {c : Dev nD} (hS : Starts m c) (n : Fin 100) :
    (tab1 m c (ix1 n) : BitVec 32).toNat = min ((FloatOps.fptosi 32 (boxesIn m c (ix2 n 1)) : BitVec 32).toInt.toNat / 8) 32 := by
  rw [tab1_at]; exact clamp_toNat (hS n).2 (Or.inl rfl) (by decide)
theorem tab2_toNat {c : Dev nD} (hS : Starts m c) (n : Fin 100) :
    (tab2 m c (ix1 n) : BitVec 32).toNat = min ((FloatOps.fptosi 32 (boxesIn m c (ix2 n 0)) : BitVec 32).toInt.toNat / 128) 1 := by
  rw [tab2_at]; exact clamp_toNat (hS n).1 (Or.inr rfl) (by decide)

/-- So the tables choose windows inside an image. -/
theorem fit_of_starts {c : Dev nD} (hS : Starts m c) : Fit (tab1 m c) (tab2 m c) := by
  intro n hn
  constructor
  · exact (tab1_toNat m hS ⟨min n 99, by omega⟩).trans_le (Nat.min_le_right _ _)
  · exact (tab2_toNat m hS ⟨min n 99, by omega⟩).trans_le (Nat.min_le_right _ _)

/-! ## After it -/

theorem rest_arg0 : main_arg0 ∈ Pipeline.restRefsP sig pre0 spec0 := by decide
theorem rest_arg1 : main_arg1 ∈ Pipeline.restRefsP sig pre0 spec0 := by decide
theorem rest_out : main_v15 ∈ Pipeline.restRefsP sig pre0 spec0 := by decide

theorem ends_arg0 {r : PUnit × MemSt nD τ sig (Elt F)} (h : Ends m r) (c : Dev nD) :
    r.2.mem ((c.tc : Thread nD τ).loc main_arg0) = m ((c.tc : Thread nD τ).loc main_arg0) := by
  rw [h.1 c main_arg0 rest_arg0]
  after_reads_simp
  rw [Pipeline.withArrays_of_ne _ _ _ _ _ (by decide), Pipeline.withR_of_not_mem _ _ _ _ _ (by decide)]
  exact V_arg0 m c
theorem ends_arg1 {r : PUnit × MemSt nD τ sig (Elt F)} (h : Ends m r) (c : Dev nD) :
    r.2.mem ((c.tc : Thread nD τ).loc main_arg1) = m ((c.tc : Thread nD τ).loc main_arg1) := by
  rw [h.1 c main_arg1 rest_arg1]
  after_reads_simp
  rw [Pipeline.withArrays_of_ne _ _ _ _ _ (by decide), Pipeline.withR_of_not_mem _ _ _ _ _ (by decide)]
  exact V_arg1 m c
/-- The result: what the kernel wrote, its axes put back. -/
def out (c : Dev nD) : S512x512x100.Idx → Elt F .f32 :=
  transpose S512x512x100 [1, 2, 0] (written m c) transposes_S100x512x512_S512x512x100_1_2_0
theorem ends_out {r : PUnit × MemSt nD τ sig (Elt F)} (h : Ends m r) (c : Dev nD) :
    r.2.mem ((c.tc : Thread nD τ).loc main_v15) = out m c := by
  rw [h.1 c main_v15 rest_out]
  after_reads_simp
  rw [Pipeline.withArrays_of_ne _ _ _ _ _ (by decide), Pipeline.withR_of_mem _ _ _ _ _ (by decide), G_out]
  rfl

/-- The kernel runs to its end from boxes that start at no negative row or column: the result is `out`, the arguments
    are as launched and every semaphore reads zero. -/
theorem run (ρ : Dev nD → PrngReg) (hS : ∀ c, Starts m c) :
    θ_run defs (onTc (τ := τ) (main (F := F))) ⟨m, fun _ => 0, ρ⟩ (fun r => (∀ c : Dev nD,
        r.2.mem ((c.tc : Thread nD τ).loc main_v15) = out m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨ends_out m h c, ends_arg0 m h c, ends_arg1 m h c⟩, h.2⟩)
    (run_main m ρ fun c => fit_of_starts m (hS c))

/-! ## The precondition -/

theorem starts_of_pre [Cert.Pre_boxes_start.Facts] (c : Dev nD)
    (h : Cert.Pre_boxes_start.fn (F := F) (dataIn m c) (boxesIn m c) = fun _ => 1#1) : Starts m c := by
  intro n
  have hn := congrFun h (ix1 n)
  unfold Cert.Pre_boxes_start.fn at hn
  revert hn
  pointwise
  intro hn
  rw [IntOp.andi_eq_one, IntOp.cmpi_sge, IntOp.cmpi_sge] at hn
  exact hn

end Cert.Proof.CropIdeal

end
-- ==== Proof.Values.lean ====
/-
  The value: what the kernel leaves, put back in the input's order of axes, is the crop the reference computes.
-/
module

public import proofs.«01_k».proof.Proof.HostIdeal
public import proofs.«01_k».proof.Proof.Gen.ReferenceIdeal
public import proofs.«01_k».proof.ReferenceIdeal
public import proofs.«01_k».proof.Pre_boxes_fit
public import Idealize.ShloMosaic.Lib.Claim
public import Idealize.ShloMosaic.PureOps.Ideal.Laws
@[expose] public section

noncomputable section

namespace Cert.Proof.CropIdeal

open Cert.KernelIdeal Cert.KernelIdeal.Gen
open Idealize.ShloMosaic
open Idealize.ShloMosaic.TcCoe Idealize.ShloMosaic.Tactic
open Idealize.SL.Sem
open Cert.Proof.Words

/-! ## The crop -/

/-- Row `h` and column `w` lie in the box of image `n`: its corners are columns `x1`, `x2` and rows `y1`, `y2`. -/
def Inside (B : S100x4.Idx → EReal) (n : Fin 100) (h w : ℕ) : Prop :=
  (B (ix2 n 0) ≤ ((w : ℝ) : EReal) ∧ ((w : ℝ) : EReal) ≤ B (ix2 n 2)) ∧ (B (ix2 n 1) ≤ ((h : ℝ) : EReal) ∧ ((h : ℝ) : EReal) ≤ B (ix2 n 3))

open Classical in
/-- The data inside the boxes, zero outside. -/
def crop (A : S512x512x100.Idx → EReal) (B : S100x4.Idx → EReal) : S512x512x100.Idx → EReal := fun j =>
  if Inside B (j 2) (j 0).val (j 1).val then A j else 0

/-! ## Scalars -/

theorem cmpf_oge {x y : EReal} : FloatOps.cmpf (F := Ideal) (φ := .f32) .oge x y = 1#1 ↔ y ≤ x := by
  show BitVec.ofBool (decide (y ≤ x)) = 1#1 ↔ _
  by_cases h : y ≤ x <;> simp [h]
theorem cmpf_ole {x y : EReal} : FloatOps.cmpf (F := Ideal) (φ := .f32) .ole x y = 1#1 ↔ x ≤ y := by
  show BitVec.ofBool (decide (x ≤ y)) = 1#1 ↔ _
  by_cases h : x ≤ y <;> simp [h]
theorem zero_val : (FloatOps.ofBits FTy.f32 0#32 : Ideal .f32) = (0 : EReal) := Idealize.ShloMosaic.Ideal.ofBits_zero_f32
/-- A small word as a number. -/
theorem sitofp_val {b : BitVec 32} {k : ℕ} (h : b.toNat = k) (hk : k < 2 ^ 31) :
    (FloatOps.sitofp (F := Ideal) FTy.f32 b : EReal) = ((k : ℝ) : EReal) := by
  show (((b.toInt : ℝ)) : EReal) = _
  rw [BitVec.toInt_eq_toNat_of_lt (by omega), h]
  simp

theorem toInt_ofInt {z : ℤ} (h1 : -2 ^ 31 ≤ z) (h2 : z ≤ 2 ^ 31 - 1) : (BitVec.ofInt 32 z).toInt = z := by
  rw [BitVec.toInt_ofInt]
  exact Int.bmod_eq_of_le (by omega) (by omega)
/-- A number below a natural number truncates to an integer below it, -/
theorem trunc_le {x : EReal} {k : ℕ} (hk : k < 512) (h : x ≤ ((k : ℝ) : EReal)) : (FloatOps.fptosi (F := Ideal) (φ := .f32) 32 x : BitVec 32).toInt ≤ k := by
  show (Ideal.fptosi 32 x).toInt ≤ k
  unfold Ideal.fptosi
  induction x with
  | bot => rw [Ideal.toIntClamped_bot, toInt_ofInt (by decide) (by decide)]; omega
  | top => exact absurd h (not_le.2 (EReal.coe_lt_top _))
  | coe r =>
    have hr : r ≤ (k : ℝ) := EReal.coe_le_coe_iff.1 h
    have hz : (if 0 ≤ r then ⌊r⌋ else ⌈r⌉) ≤ (k : ℤ) := by
      split
      · exact (Int.cast_le (R := ℝ)).1 ((Int.floor_le r).trans (by exact_mod_cast hr))
      · exact Int.ceil_le.2 (by exact_mod_cast hr)
    rw [Ideal.toIntClamped_coe]
    generalize (if 0 ≤ r then ⌊r⌋ else ⌈r⌉) = z at hz
    rw [toInt_ofInt (by omega) (by omega)]
    omega
/-- and one above a natural number to an integer above it. -/
theorem le_trunc {x : EReal} {k : ℕ} (hk : k < 512) (h : ((k : ℝ) : EReal) ≤ x) : (k : ℤ) ≤ (FloatOps.fptosi (F := Ideal) (φ := .f32) 32 x : BitVec 32).toInt := by
  show (k : ℤ) ≤ (Ideal.fptosi 32 x).toInt
  unfold Ideal.fptosi
  induction x with
  | bot => exact absurd h (not_le.2 (EReal.bot_lt_coe _))
  | top => rw [Ideal.toIntClamped_top, toInt_ofInt (by decide) (by decide)]; omega
  | coe r =>
    have hr : (k : ℝ) ≤ r := EReal.coe_le_coe_iff.1 h
    have h0 : 0 ≤ r := (Nat.cast_nonneg k).trans hr
    have hz : (k : ℤ) ≤ ⌊r⌋ := Int.le_floor.2 (by exact_mod_cast hr)
    rw [Ideal.toIntClamped_coe, if_pos h0]
    generalize ⌊r⌋ = z at hz
    rw [toInt_ofInt (by omega) (by omega)]
    omega

open Classical in
/-- A select on the conjunction of the four comparisons, in the order the kernel takes them. -/
theorem select_inside {α : Type} {P : Prop} {b : BitVec 1} (h : b = 1#1 ↔ P) (x y : α) : Scalar.select b x y = if P then x else y := by
  unfold Scalar.select
  by_cases hP : P
  · rw [if_pos hP]; exact if_pos (h.2 hP)
  · rw [if_neg hP]; exact if_neg fun e => hP (h.1 e)

/-! ## The kernel's values -/

open Classical in
/-- Inside its window an image is the data masked to the box. -/
theorem masked_at (H1 H2 : S100.Idx → Elt Ideal .i32) (D : S100x512x512.Idx → EReal) (X : S4x100.Idx → EReal) (hF : Fit (F := Ideal) H1 H2)
    (n : Fin 100) (p : Fin 256) (q : Fin 384) (B : S100x4.Idx → EReal) (hX : ∀ k n, X (ix2 k n) = B (ix2 n k)) :
    masked (F := Ideal) H1 H2 D X n.val (ix3 0 p q)
      = if Inside B n (row (F := Ideal) H1 n.val + p.val) (col (F := Ideal) H2 n.val + q.val) then block (F := Ideal) H1 H2 D n.val (ix3 0 p q) else 0 := by
  have hr := row_le (F := Ideal) H1 n.val
  have hc := col_le (F := Ideal) H2 n.val
  have er : (IntOp.addi (Scalar.muli (word (F := Ideal) H1 n.val) 8#32) (BitVec.ofNat 32 p.val)).toNat = row (F := Ideal) H1 n.val + p.val := by
    show (_ + _ : BitVec 32).toNat = _
    rw [BitVec.toNat_add, row_word hF n.isLt, BitVec.toNat_ofNat]
    omega
  have ec : (IntOp.addi (Scalar.muli (word (F := Ideal) H2 n.val) 128#32) (BitVec.ofNat 32 q.val)).toNat = col (F := Ideal) H2 n.val + q.val := by
    show (_ + _ : BitVec 32).toNat = _
    rw [BitVec.toNat_add, col_word hF n.isLt, BitVec.toNat_ofNat]
    omega
  have eX : ∀ k, roi (F := Ideal) X k n.val = B (ix2 n k) := fun k => by
    refine (hX k ⟨min n.val 99, by omega⟩).trans ?_
    exact congrArg (fun i => B (ix2 i k)) (Fin.ext (by show min n.val 99 = n.val; omega))
  unfold masked k0_pay3
  pointwise
  rw [zero_val, sitofp_val er (by omega), sitofp_val ec (by omega), eX, eX, eX, eX]
  refine select_inside ?_ _ _
  rw [IntOp.andi_eq_one, IntOp.andi_eq_one, IntOp.andi_eq_one, cmpf_oge, cmpf_ole, cmpf_oge, cmpf_ole]
  exact and_comm

/-- A window's block holds the data of the window. -/
theorem block_at (H1 H2 : S100.Idx → Elt Ideal .i32) (D : S100x512x512.Idx → EReal) (n : Fin 100) (h w : Fin 512) (p : Fin 256) (q : Fin 384)
    (er : row (F := Ideal) H1 n.val + p.val = h.val) (ec : col (F := Ideal) H2 n.val + q.val = w.val) :
    block (F := Ideal) H1 H2 D n.val (ix3 0 p q) = D (ix3 n h w) := by
  have g : ∀ (a : Fin 100) (b d : Fin 512), a = n → b = h → d = w → D (ValueIdx.ix3 a b d) = D (ix3 n h w) := by
    rintro a b d rfl rfl rfl
    rw [ix3_eq_valueIdx]
  exact g _ _ _ (Fin.ext (by show min n.val 99 = n.val; omega)) (Fin.ext er) (Fin.ext ec)

open Classical in
/-- A finished image is the data inside its box and zero outside, when the window holds the box. -/
theorem image_at (H1 H2 : S100.Idx → Elt Ideal .i32) (D : S100x512x512.Idx → EReal) (X : S4x100.Idx → EReal) (A : S512x512x100.Idx → EReal)
    (B : S100x4.Idx → EReal) (hF : Fit (F := Ideal) H1 H2) (hX : ∀ k n, X (ix2 k n) = B (ix2 n k)) (hD : ∀ n h w, D (ix3 n h w) = A (ix3 h w n))
    (n : Fin 100) (h w : Fin 512) (hw : Inside B n h.val w.val →
      (row (F := Ideal) H1 n.val ≤ h.val ∧ h.val < row (F := Ideal) H1 n.val + 256) ∧ (col (F := Ideal) H2 n.val ≤ w.val ∧ w.val < col (F := Ideal) H2 n.val + 384)) :
    image (F := Ideal) H1 H2 D X n.val h w = if Inside B n h.val w.val then A (ix3 h w n) else 0 := by
  unfold image
  split
  · next hh =>
    obtain ⟨p, hp⟩ : ∃ p : Fin 256, row (F := Ideal) H1 n.val + p.val = h.val := ⟨⟨h.val - row (F := Ideal) H1 n.val, by omega⟩, by dsimp only; omega⟩
    obtain ⟨q, hq⟩ : ∃ q : Fin 384, col (F := Ideal) H2 n.val + q.val = w.val := ⟨⟨w.val - col (F := Ideal) H2 n.val, by omega⟩, by dsimp only; omega⟩
    have ep : ∀ hb, (⟨h.val - row (F := Ideal) H1 n.val, hb⟩ : Fin 256) = p := fun _ => Fin.ext (by dsimp only; omega)
    have eq : ∀ hb, (⟨w.val - col (F := Ideal) H2 n.val, hb⟩ : Fin 384) = q := fun _ => Fin.ext (by dsimp only; omega)
    rw [ep, eq, ← ix3_eq_valueIdx, masked_at H1 H2 D X hF n p q B hX, hp, hq, block_at H1 H2 D n h w p q hp hq, hD]
  · next hh =>
    rw [if_neg fun hi => hh (hw hi)]
    exact zero_val

variable (m : (ℓ : Loc nD τ sig) → Buf (Elt Ideal) ℓ)

/-- A box corner as the host truncates it. -/
abbrev corner (c : Dev nD) (k : Fin 4) (n : Fin 100) : BitVec 32 := FloatOps.fptosi (F := Ideal) (φ := .f32) 32 (boxesIn (F := Ideal) m c (ix2 n k))

/-- Boxes that fit: they start at no negative row or column and end at most 256 columns right and 248 rows below. -/
def Fits (c : Dev nD) : Prop :=
  ∀ n : Fin 100, ((0 ≤ (corner m c 0 n).toInt ∧ 0 ≤ (corner m c 1 n).toInt) ∧ (corner m c 2 n).toInt ≤ (corner m c 0 n + 256#32).toInt)
    ∧ (corner m c 3 n).toInt ≤ (corner m c 1 n + 248#32).toInt

theorem starts_of_fits {c : Dev nD} (h : Fits m c) : Starts (F := Ideal) m c := fun n => (h n).1.1

/-- A word that stays below the sign adds as a number. -/
theorem add_toInt {a : BitVec 32} {k : ℕ} (h0 : 0 ≤ a.toInt) (h1 : a.toInt < 512) (hk : k < 512) : (a + BitVec.ofNat 32 k).toInt = a.toInt + k := by
  have e : (BitVec.ofNat 32 k).toInt = k := by
    rw [BitVec.toInt_eq_toNat_of_lt (by rw [BitVec.toNat_ofNat]; omega), BitVec.toNat_ofNat, Nat.mod_eq_of_lt (by omega)]
  rw [BitVec.toInt_add, e]
  exact Int.bmod_eq_of_le (by omega) (by omega)

/-- Every place inside a box that fits is inside the image's window. -/
theorem window_of_inside {c : Dev nD} (hf : Fits m c) (n : Fin 100) (h w : Fin 512) (hi : Inside (boxesIn (F := Ideal) m c) n h.val w.val) :
    (row (F := Ideal) (tab1 m c) n.val ≤ h.val ∧ h.val < row (F := Ideal) (tab1 m c) n.val + 256) ∧ (col (F := Ideal) (tab2 m c) n.val ≤ w.val ∧ w.val < col (F := Ideal) (tab2 m c) n.val + 384) := by
  obtain ⟨⟨hx1, hx2⟩, hy1, hy2⟩ := hi
  have a1 := trunc_le w.isLt hx1
  have a2 := le_trunc w.isLt hx2
  have b1 := trunc_le h.isLt hy1
  have b2 := le_trunc h.isLt hy2
  obtain ⟨⟨⟨c1, c2⟩, c3⟩, c4⟩ := hf n
  have hw := w.isLt
  have hh := h.isLt
  change (corner m c 0 n).toInt ≤ _ at a1
  change (corner m c 1 n).toInt ≤ _ at b1
  change _ ≤ (corner m c 2 n).toInt at a2
  change _ ≤ (corner m c 3 n).toInt at b2
  rw [add_toInt c1 (by omega) (by omega)] at c3
  rw [add_toInt c2 (by omega) (by omega)] at c4
  have hn : (⟨min n.val 99, by omega⟩ : Fin 100) = n := Fin.ext (by show min n.val 99 = n.val; omega)
  have t1 := tab1_toNat m (starts_of_fits m hf) n
  have t2 := tab2_toNat m (starts_of_fits m hf) n
  unfold row col word
  rw [hn, ← ix1_eq_valueIdx, t1, t2]
  show (min (min ((corner m c 1 n).toInt.toNat / 8) 32 * 8) 256 ≤ h.val ∧ h.val < min (min ((corner m c 1 n).toInt.toNat / 8) 32 * 8) 256 + 256)
    ∧ (min (min ((corner m c 0 n).toInt.toNat / 128) 1 * 128) 128 ≤ w.val ∧ w.val < min (min ((corner m c 0 n).toInt.toNat / 128) 1 * 128) 128 + 384)
  generalize (corner m c 0 n).toInt = x1 at *
  generalize (corner m c 1 n).toInt = y1 at *
  generalize (corner m c 2 n).toInt = x2 at *
  generalize (corner m c 3 n).toInt = y2 at *
  omega

/-- The result is the crop. -/
theorem out_eq {c : Dev nD} (hf : Fits m c) : out (F := Ideal) m c = crop (dataIn (F := Ideal) m c) (boxesIn (F := Ideal) m c) := by
  funext j
  rw [eq_ix3 j]
  generalize j 0 = h, j 1 = w, j 2 = n
  have e : out (F := Ideal) m c (ix3 h w n) = image (F := Ideal) (tab1 m c) (tab2 m c) (dataT m c) (boxT m c) n.val h w := by
    unfold out
    pointwise
    rfl
  exact e.trans (image_at _ _ _ _ _ (boxesIn (F := Ideal) m c) (fit_of_starts m (starts_of_fits m hf)) (boxT_at m c) (dataT_at m c) n h w
    (window_of_inside m hf n h w))

/-- The second precondition says that every box fits. -/
theorem fits_of_pre [Cert.Pre_boxes_fit.Facts] (c : Dev nD)
    (h : Cert.Pre_boxes_fit.fn (F := Ideal) (dataIn (F := Ideal) m c) (boxesIn (F := Ideal) m c) = fun _ => 1#1) : Fits m c := by
  intro n
  have hn := congrFun h (ix1 n)
  unfold Cert.Pre_boxes_fit.fn Cert.Pre_boxes_fit.fn_part1 at hn
  revert hn
  pointwise
  intro hn
  rw [IntOp.andi_eq_one, IntOp.andi_eq_one, IntOp.andi_eq_one, IntOp.cmpi_sge, IntOp.cmpi_sge, IntOp.cmpi_sle, IntOp.cmpi_sle] at hn
  exact hn

/-! ## The reference's values -/

/-- The reference runs to its end, leaves the crop of its arguments and leaves them as they were. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v35)
          = crop (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  hlo_run
  simp only [StableHlo.TRef.toBuf, StableHlo.TRef.ofBuf, cast_eq]
  funext j
  pointwise
  have h0 : (j 0).val < 512 := (j 0).isLt
  have h1 : (j 1).val < 512 := (j 1).isLt
  rw [zero_val, sitofp_val (k := (j 1).val) (by rw [BitVec.toNat_ofNat]; omega) (by omega), sitofp_val (k := (j 0).val) (by rw [BitVec.toNat_ofNat]; omega) (by omega)]
  refine select_inside ?_ _ _
  rw [IntOp.andi_eq_one, IntOp.andi_eq_one, IntOp.andi_eq_one, cmpf_oge, cmpf_ole, cmpf_oge, cmpf_ole]
  exact and_assoc

end Cert.Proof.CropIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Host
public import proofs.«01_k».proof.Proof.Values
public import Idealize.ShloMosaic.Adequacy
public import Idealize.ShloMosaic.Init

@[expose] public section

noncomputable section

namespace Cert.Proof

open Idealize.ShloMosaic Idealize.SL.Sem

theorem start_facts : Cert.Pre_boxes_start.Facts where
  slices_S100x4_S100x1_0_0 := by decide
  shapeCasts_S100x1_S100 := by decide
  slices_S100x4_S100x1_0_1 := by decide
  bcast_S_S100 := by decide
theorem fit_facts : Cert.Pre_boxes_fit.Facts where
  slices_S100x4_S100x1_0_0 := by decide
  shapeCasts_S100x1_S100 := by decide
  slices_S100x4_S100x1_0_1 := by decide
  slices_S100x4_S100x1_0_2 := by decide
  slices_S100x4_S100x1_0_3 := by decide
  bcast_S_S100 := by decide

attribute [local instance] start_facts fit_facts

/-- The kernel at the bits: from boxes that start at no negative row or column it ends, its arguments as launched and
    every semaphore at zero. -/
theorem frame_kernel : Cert.quiescent_Kernel := fun m g hP =>
  (θ_run _ _ _).mono (fun _ h => ⟨fun c => (h.1 c).2, h.2⟩) (Crop.run m g fun c => Crop.starts_of_pre m c (hP c))
/-- The same at the ideal values, -/
theorem frame_ideal : Cert.quiescent_KernelIdeal := fun m g hP =>
  (θ_run _ _ _).mono (fun _ h => ⟨fun c => (h.1 c).2, h.2⟩) (CropIdeal.run m g fun c => CropIdeal.starts_of_pre m c (hP c))
/-- and from boxes that fit. -/
theorem frame_ideal_fit : Cert.quiescent_KernelIdeal_pre_boxes_fit := fun m g hP =>
  (θ_run _ _ _).mono (fun _ h => ⟨fun c => (h.1 c).2, h.2⟩)
    (CropIdeal.run m g fun c => CropIdeal.starts_of_fits m (CropIdeal.fits_of_pre m c (hP c)))
/-- The reference ends from every memory, its arguments as launched and every semaphore at zero. -/
theorem frame_reference : Cert.quiescent_ReferenceIdeal := fun m g hP =>
  (θ_run _ _ _).mono (fun r h => ⟨fun c => (h c).2, sem_eq_zero_of_no_sems (by decide) r.2⟩) (CropIdeal.ref_run m g)
theorem frame_reference_fit : Cert.quiescent_ReferenceIdeal_pre_boxes_fit := fun m g _ => frame_reference m g trivial

/-- From boxes that fit, the kernel and the reference both leave the crop of their arguments. -/
theorem values : Cert.algebraic_KernelIdeal_ReferenceIdeal_pre_boxes_fit := by
  intro m g m' g' hP hA
  have hf := fun c => CropIdeal.fits_of_pre m c (hP c)
  refine ⟨fun c => CropIdeal.crop (CropIdeal.dataIn m c) (CropIdeal.boxesIn m c), ?_, ?_⟩
  · exact (θ_run _ _ _).mono (fun _ h c => ⟨(h.1 c).1.trans (CropIdeal.out_eq m (hf c)), (h.1 c).2⟩)
      (CropIdeal.run m g fun c => CropIdeal.starts_of_fits m (hf c))
  · refine (θ_run _ _ _).mono (fun _ h c => ⟨(h c).1.trans ?_, (h c).2⟩) (CropIdeal.ref_run m' g')
    rw [(hA c).1, (hA c).2]

theorem claim : Cert.Claim :=
  ⟨Cert.Kernel.Gen.facts, Cert.KernelIdeal.Gen.facts, Cert.ReferenceIdeal.Gen.facts, start_facts, fit_facts,
    frame_kernel, frame_ideal, frame_ideal_fit, frame_reference, frame_reference_fit, trivial, values⟩

end Cert.Proof

end
